-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes [hPre_classes : Cert.Pre_classes.Facts] (m : (ℓ : Loc Cert.KernelIdeal.nD Cert.KernelIdeal.τ Cert.KernelIdeal.sig) → Buf (Elt Ideal) ℓ) : Prop :=
  ∀ c : Dev Cert.KernelIdeal.nD,
    (Cert.Pre_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes [hPre_classes : Cert.Pre_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_classes [hKernelIdeal : Cert.KernelIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_classes [hReferenceIdeal : Cert.ReferenceIdeal.Facts] [hPre_classes : Cert.Pre_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_classes [hKernelIdeal : Cert.KernelIdeal.Facts] [hReferenceIdeal : Cert.ReferenceIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v656) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_classes : Cert.Pre_classes.Facts),
    quiescent_Kernel (hKernel := hKernel)
    ∧ quiescent_KernelIdeal (hKernelIdeal := hKernelIdeal)
    ∧ quiescent_KernelIdeal_pre_classes (hKernelIdeal := hKernelIdeal) (hPre_classes := hPre_classes)
    ∧ quiescent_ReferenceIdeal (hReferenceIdeal := hReferenceIdeal)
    ∧ quiescent_ReferenceIdeal_pre_classes (hReferenceIdeal := hReferenceIdeal) (hPre_classes := hPre_classes)
    ∧ preserves_Kernel_KernelIdeal
    ∧ algebraic_KernelIdeal_ReferenceIdeal_pre_classes (hKernelIdeal := hKernelIdeal) (hReferenceIdeal := hReferenceIdeal) (hPre_classes := hPre_classes)
-- ==== Pre_classes.lean ====
abbrev S4x64x128x128 : Shape := ⟨4, ![4, 64, 128, 128]⟩
abbrev S4x128x128 : Shape := ⟨3, ![4, 128, 128]⟩
abbrev S20x64x64 : Shape := ⟨3, ![20, 64, 64]⟩
abbrev S20x64 : Shape := ⟨2, ![20, 64]⟩
abbrev S64x64x3x3 : Shape := ⟨4, ![64, 64, 3, 3]⟩
abbrev S64 : Shape := ⟨1, ![64]⟩
abbrev S_ : Shape := ⟨0, ![]⟩

class Facts : Prop where
  bcast_S_S4x128x128 : S_.BroadcastsInDim S4x128x128 (![] : Fin 0 → Fin S4x128x128.rank)
  reducesTo_S4x128x128_S_d0_1_2 : S4x128x128.ReducesTo [0, 1, 2] S_
  h_S_ : 0 < S_.numel

variable [Facts]

def fn {F : FTy → Type} [FloatOps F] (main_arg0 : FVec F S4x64x128x128 .f32) (main_arg1 : FVec F S4x64x128x128 .f32) (main_arg2 : IVec S4x128x128 32) (main_arg3 : IVec S4x128x128 32) (main_arg4 : FVec F S20x64x64 .f32) (main_arg5 : FVec F S20x64 .f32) (main_arg6 : FVec F S64x64x3x3 .f32) (main_arg7 : FVec F S64 .f32) (main_arg8 : FVec F S64x64x3x3 .f32) (main_arg9 : FVec F S64 .f32) : IVec S_ 1 :=
  let main_c : IVec S_ 32 := constantI S_ 32 4294967295#32
  let main_v0 : IVec S4x128x128 32 := broadcastInDim S4x128x128 ![] bcast_S_S4x128x128 main_c
  let main_v1 : IVec S4x128x128 1 := cmpi .sge main_arg2 main_v0
  let main_c_0 : IVec S_ 32 := constantI S_ 32 19#32
  let main_v2 : IVec S4x128x128 32 := broadcastInDim S4x128x128 ![] bcast_S_S4x128x128 main_c_0
  let main_v3 : IVec S4x128x128 1 := cmpi .slt main_arg2 main_v2
  let main_v4 : IVec S4x128x128 1 := andi main_v1 main_v3
  let main_c_1 : IVec S_ 1 := constantI S_ 1 1#1
  let main_v5 : IVec S_ 1 := (fun x v => Host.reduce IntOp.andi x v reducesTo_S4x128x128_S_d0_1_2 h_S_) main_v4 main_c_1
  let main_c_2 : IVec S_ 32 := constantI S_ 32 4294967295#32
  let main_v6 : IVec S4x128x128 32 := broadcastInDim S4x128x128 ![] bcast_S_S4x128x128 main_c_2
  let main_v7 : IVec S4x128x128 1 := cmpi .sge main_arg3 main_v6
  let main_c_3 : IVec S_ 32 := constantI S_ 32 19#32
  let main_v8 : IVec S4x128x128 32 := broadcastInDim S4x128x128 ![] bcast_S_S4x128x128 main_c_3
  let main_v9 : IVec S4x128x128 1 := cmpi .slt main_arg3 main_v8
  let main_v10 : IVec S4x128x128 1 := andi main_v7 main_v9
  let main_c_4 : IVec S_ 1 := constantI S_ 1 1#1
  let main_v11 : IVec S_ 1 := (fun x v => Host.reduce IntOp.andi x v reducesTo_S4x128x128_S_d0_1_2 h_S_) main_v10 main_c_4
  let main_v12 : IVec S_ 1 := andi main_v5 main_v11
  main_v12
-- ==== Kernel.lean ====
abbrev S4x64x128x128 : Shape := ⟨4, ![4, 64, 128, 128]⟩
abbrev S4x128x128 : Shape := ⟨3, ![4, 128, 128]⟩
abbrev S20x64x64 : Shape := ⟨3, ![20, 64, 64]⟩
abbrev S20x64 : Shape := ⟨2, ![20, 64]⟩
abbrev S64x64x3x3 : Shape := ⟨4, ![64, 64, 3, 3]⟩
abbrev S64 : Shape := ⟨1, ![64]⟩
abbrev S4x64x16384 : Shape := ⟨3, ![4, 64, 16384]⟩
abbrev S4x1x16384 : Shape := ⟨3, ![4, 1, 16384]⟩
abbrev S64x20x64 : Shape := ⟨3, ![64, 20, 64]⟩
abbrev S64x20 : Shape := ⟨2, ![64, 20]⟩
abbrev S2x4x64x20 : Shape := ⟨4, ![2, 4, 64, 20]⟩
abbrev S1x64x16384 : Shape := ⟨3, ![1, 64, 16384]⟩
abbrev S1x1x16384 : Shape := ⟨3, ![1, 1, 16384]⟩
abbrev S2x1x64x20 : Shape := ⟨4, ![2, 1, 64, 20]⟩
abbrev S64x16384 : Shape := ⟨2, ![64, 16384]⟩
abbrev S1x16384 : Shape := ⟨2, ![1, 16384]⟩
abbrev S20x16384 : Shape := ⟨2, ![20, 16384]⟩
abbrev S1x20 : Shape := ⟨2, ![1, 20]⟩
abbrev S64x1 : Shape := ⟨2, ![64, 1]⟩
abbrev S1280x64 : Shape := ⟨2, ![1280, 64]⟩
abbrev S1280x20 : Shape := ⟨2, ![1280, 20]⟩
abbrev S64x20x20 : Shape := ⟨3, ![64, 20, 20]⟩
abbrev S64x1x64 : Shape := ⟨3, ![64, 1, 64]⟩
abbrev S64x64 : Shape := ⟨2, ![64, 64]⟩
abbrev S20 : Shape := ⟨1, ![20]⟩
abbrev S1x1x64x20 : Shape := ⟨4, ![1, 1, 64, 20]⟩
abbrev S128x64x3x3 : Shape := ⟨4, ![128, 64, 3, 3]⟩
abbrev S3x3x64x128 : Shape := ⟨4, ![3, 3, 64, 128]⟩
abbrev S9x64x128 : Shape := ⟨3, ![9, 64, 128]⟩
abbrev S128 : Shape := ⟨1, ![128]⟩
abbrev S1x128 : Shape := ⟨2, ![1, 128]⟩
abbrev S2x4x4x64x128x128 : Shape := ⟨6, ![2, 4, 4, 64, 128, 128]⟩
abbrev S2x1x1x64x32x128 : Shape := ⟨6, ![2, 1, 1, 64, 32, 128]⟩
abbrev S130x130x64 : Shape := ⟨3, ![130, 130, 64]⟩
abbrev S16384x20 : Shape := ⟨2, ![16384, 20]⟩
abbrev S16384x64 : Shape := ⟨2, ![16384, 64]⟩
abbrev S128x128x64 : Shape := ⟨3, ![128, 128, 64]⟩
abbrev S32x128x64 : Shape := ⟨3, ![32, 128, 64]⟩
abbrev S4096x64 : Shape := ⟨2, ![4096, 64]⟩
abbrev S1x64x128 : Shape := ⟨3, ![1, 64, 128]⟩
abbrev S64x128 : Shape := ⟨2, ![64, 128]⟩
abbrev S4096x128 : Shape := ⟨2, ![4096, 128]⟩
abbrev S128x4096 : Shape := ⟨2, ![128, 4096]⟩
abbrev S128x32x128 : Shape := ⟨3, ![128, 32, 128]⟩
abbrev S64x32x128 : Shape := ⟨3, ![64, 32, 128]⟩
abbrev S1x1x1x64x32x128 : Shape := ⟨6, ![1, 1, 1, 64, 32, 128]⟩
abbrev S8x4x64x128x128 : Shape := ⟨5, ![8, 4, 64, 128, 128]⟩

abbrev nBuf : Space → Nat
  | .hbm => 24
  | .vmem => 23
  | .smem => 0
  | _ => 0

abbrev bufTy : (tb : Table) → Fin (tcTables nBuf tb) → BufTy
  | .hbm, ⟨0, _⟩ => ⟨S4x64x128x128, .f32⟩
  | .hbm, ⟨1, _⟩ => ⟨S4x64x128x128, .f32⟩
  | .hbm, ⟨2, _⟩ => ⟨S4x128x128, .i32⟩
  | .hbm, ⟨3, _⟩ => ⟨S4x128x128, .i32⟩
  | .hbm, ⟨4, _⟩ => ⟨S20x64x64, .f32⟩
  | .hbm, ⟨5, _⟩ => ⟨S20x64, .f32⟩
  | .hbm, ⟨6, _⟩ => ⟨S64x64x3x3, .f32⟩
  | .hbm, ⟨7, _⟩ => ⟨S64, .f32⟩
  | .hbm, ⟨8, _⟩ => ⟨S64x64x3x3, .f32⟩
  | .hbm, ⟨9, _⟩ => ⟨S64, .f32⟩
  | .hbm, ⟨10, _⟩ => ⟨S4x64x16384, .f32⟩
  | .hbm, ⟨11, _⟩ => ⟨S4x64x16384, .f32⟩
  | .hbm, ⟨12, _⟩ => ⟨S4x1x16384, .i32⟩
  | .hbm, ⟨13, _⟩ => ⟨S4x1x16384, .i32⟩
  | .hbm, ⟨14, _⟩ => ⟨S64x20x64, .f32⟩
  | .hbm, ⟨15, _⟩ => ⟨S64x20, .f32⟩
  | .hbm, ⟨16, _⟩ => ⟨S2x4x64x20, .f32⟩
  | .hbm, ⟨17, _⟩ => ⟨S128x64x3x3, .f32⟩
  | .hbm, ⟨18, _⟩ => ⟨S3x3x64x128, .f32⟩
  | .hbm, ⟨19, _⟩ => ⟨S9x64x128, .f32⟩
  | .hbm, ⟨20, _⟩ => ⟨S128, .f32⟩
  | .hbm, ⟨21, _⟩ => ⟨S1x128, .f32⟩
  | .hbm, ⟨22, _⟩ => ⟨S2x4x4x64x128x128, .f32⟩
  | .hbm, ⟨23, _⟩ => ⟨S8x4x64x128x128, .f32⟩
  | .local _ .vmem, ⟨0, _⟩ => ⟨S1x64x16384, .f32⟩
  | .local _ .vmem, ⟨1, _⟩ => ⟨S1x64x16384, .f32⟩
  | .local _ .vmem, ⟨2, _⟩ => ⟨S1x64x16384, .f32⟩
  | .local _ .vmem, ⟨3, _⟩ => ⟨S1x64x16384, .f32⟩
  | .local _ .vmem, ⟨4, _⟩ => ⟨S1x1x16384, .i32⟩
  | .local _ .vmem, ⟨5, _⟩ => ⟨S1x1x16384, .i32⟩
  | .local _ .vmem, ⟨6, _⟩ => ⟨S1x1x16384, .i32⟩
  | .local _ .vmem, ⟨7, _⟩ => ⟨S1x1x16384, .i32⟩
  | .local _ .vmem, ⟨8, _⟩ => ⟨S64x20x64, .f32⟩
  | .local _ .vmem, ⟨9, _⟩ => ⟨S64x20, .f32⟩
  | .local _ .vmem, ⟨10, _⟩ => ⟨S2x1x64x20, .f32⟩
  | .local _ .vmem, ⟨11, _⟩ => ⟨S2x1x64x20, .f32⟩
  | .local _ .vmem, ⟨12, _⟩ => ⟨S1x1x16384, .i32⟩
  | .local _ .vmem, ⟨13, _⟩ => ⟨S1x1x16384, .i32⟩
  | .local _ .vmem, ⟨14, _⟩ => ⟨S1x1x16384, .i32⟩
  | .local _ .vmem, ⟨15, _⟩ => ⟨S1x1x16384, .i32⟩
  | .local _ .vmem, ⟨16, _⟩ => ⟨S1x1x64x20, .f32⟩
  | .local _ .vmem, ⟨17, _⟩ => ⟨S1x1x64x20, .f32⟩
  | .local _ .vmem, ⟨18, _⟩ => ⟨S9x64x128, .f32⟩
  | .local _ .vmem, ⟨19, _⟩ => ⟨S1x128, .f32⟩
  | .local _ .vmem, ⟨20, _⟩ => ⟨S2x1x1x64x32x128, .f32⟩
  | .local _ .vmem, ⟨21, _⟩ => ⟨S2x1x1x64x32x128, .f32⟩
  | .local _ .vmem, ⟨22, _⟩ => ⟨S130x130x64, .f32⟩
  | _, _ => ⟨S4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x20x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1x64x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 4], ![false, false, false]⟩

def k1_off1 (i : grid1.Coords) (c0_i32_5 : BitVec 32) : Fin 3 → Nat :=
  let arg2 : BitVec 32 := BitVec.ofNat 32 (i 2).val
  let c32_i32 : BitVec 32 := 32#32
  let v10 : BitVec 32 := Scalar.muli arg2 c32_i32
  let v11 : BitVec 32 := Scalar.addi v10 c0_i32_5
  let v12 : Index := Scalar.indexCast v11
  let c0 : Index := 0#32
  let c0_6 : Index := 0#32
  ![v12.toNat, 0, 0]
def k1_off2 (i : grid1.Coords) (c0_i32_11 : BitVec 32) : Fin 3 → Nat :=
  let arg2 : BitVec 32 := BitVec.ofNat 32 (i 2).val
  let c32_i32_10 : BitVec 32 := 32#32
  let v18 : BitVec 32 := Scalar.muli arg2 c32_i32_10
  let v19 : BitVec 32 := Scalar.addi v18 c0_i32_11
  let v20 : Index := Scalar.indexCast v19
  let c1 : Index := 1#32
  let c0_12 : Index := 0#32
  ![v20.toNat, 1, 0]
def k1_off3 (i : grid1.Coords) (c0_i32_18 : BitVec 32) : Fin 3 → Nat :=
  let arg2 : BitVec 32 := BitVec.ofNat 32 (i 2).val
  let c32_i32_17 : BitVec 32 := 32#32
  let v27 : BitVec 32 := Scalar.muli arg2 c32_i32_17
  let v28 : BitVec 32 := Scalar.addi v27 c0_i32_18
  let v29 : Index := Scalar.indexCast v28
  let c2 : Index := 2#32
  let c0_19 : Index := 0#32
  ![v29.toNat, 2, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let v27 : BitVec 32 := Scalar.addi v9 v26
  let c2_i32_10 : BitVec 32 := 2#32
  let c0_i32_11 : BitVec 32 := 0#32
  let v28 : BitVec 1 := Scalar.cmpi .eq c2_i32_10 c0_i32_11
  let c1_i32_12 : BitVec 32 := 1#32
  let v29 : BitVec 32 := Scalar.select v28 c1_i32_12 c2_i32_10
  let v30 : BitVec 32 := Scalar.remsi v27 v29
  let c0_i32_13 : BitVec 32 := 0#32
  let v31 : BitVec 1 := Scalar.cmpi .ne v30 c0_i32_13
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let v35 : BitVec 1 := Scalar.andi v34 v31
  let v36 : BitVec 32 := Scalar.addi v30 v29
  let v37 : BitVec 32 := Scalar.select v35 v36 v30
  let c0_i32_16 : BitVec 32 := 0#32
  let c0_i32_17 : BitVec 32 := 0#32
  let c0_i32_18 : BitVec 32 := 0#32
  ![v37.toNat, arg1.toNat, c0_i32_16.toNat, c0_i32_17.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, arg2.toNat, c0_i32_1.toNat]

abbrev stage1_0 : Fin 2 → Memref sig .tc .vmem S1x1x16384 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S1x1x16384 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x1x64x20 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S9x64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S2x1x1x64x32x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== ReferenceIdeal.lean ====
abbrev S4x64x128x128 : Shape := ⟨4, ![4, 64, 128, 128]⟩
abbrev S4x128x128 : Shape := ⟨3, ![4, 128, 128]⟩
abbrev S20x64x64 : Shape := ⟨3, ![20, 64, 64]⟩
abbrev S20x64 : Shape := ⟨2, ![20, 64]⟩
abbrev S64x64x3x3 : Shape := ⟨4, ![64, 64, 3, 3]⟩
abbrev S64 : Shape := ⟨1, ![64]⟩
abbrev S_ : Shape := ⟨0, ![]⟩
abbrev S4x128x128x1 : Shape := ⟨4, ![4, 128, 128, 1]⟩
abbrev S1x1x1x20 : Shape := ⟨4, ![1, 1, 1, 20]⟩
abbrev S4x128x128x20 : Shape := ⟨4, ![4, 128, 128, 20]⟩
abbrev S4x20x128x128 : Shape := ⟨4, ![4, 20, 128, 128]⟩
abbrev S4x20 : Shape := ⟨2, ![4, 20]⟩
abbrev S4x20x64 : Shape := ⟨3, ![4, 20, 64]⟩
abbrev S4x20x1 : Shape := ⟨3, ![4, 20, 1]⟩
abbrev S4x64 : Shape := ⟨2, ![4, 64]⟩
abbrev S4x1x64 : Shape := ⟨3, ![4, 1, 64]⟩
abbrev S4x21x64 : Shape := ⟨3, ![4, 21, 64]⟩
abbrev S20x64x4 : Shape := ⟨3, ![20, 64, 4]⟩
abbrev S1x20x64 : Shape := ⟨3, ![1, 20, 64]⟩
abbrev S1x64x64 : Shape := ⟨3, ![1, 64, 64]⟩
abbrev S64x64 : Shape := ⟨2, ![64, 64]⟩
abbrev S1x64 : Shape := ⟨2, ![1, 64]⟩
abbrev S20 : Shape := ⟨1, ![20]⟩
abbrev S1x20 : Shape := ⟨2, ![1, 20]⟩
abbrev S4x64x130x130 : Shape := ⟨4, ![4, 64, 130, 130]⟩
abbrev S64x64x1x1 : Shape := ⟨4, ![64, 64, 1, 1]⟩
abbrev S64x4x128x128 : Shape := ⟨4, ![64, 4, 128, 128]⟩
abbrev S1x64x1x1 : Shape := ⟨4, ![1, 64, 1, 1]⟩
abbrev S1x4x64x128x128 : Shape := ⟨5, ![1, 4, 64, 128, 128]⟩
abbrev S8x4x64x128x128 : Shape := ⟨5, ![8, 4, 64, 128, 128]⟩

abbrev nBuf : Space → Nat
  | .hbm => 773
  | .vmem => 0
  | .smem => 0
  | _ => 0

abbrev hbmTy0_0 (i : Nat) : BufTy := match i % 128 with
  | 0 => ⟨S4x64x128x128, .f32⟩
  | 1 => ⟨S4x64x128x128, .f32⟩
  | 2 => ⟨S4x128x128, .i32⟩
  | 3 => ⟨S4x128x128, .i32⟩
  | 4 => ⟨S20x64x64, .f32⟩
  | 5 => ⟨S20x64, .f32⟩
  | 6 => ⟨S64x64x3x3, .f32⟩
  | 7 => ⟨S64, .f32⟩
  | 8 => ⟨S64x64x3x3, .f32⟩
  | 9 => ⟨S64, .f32⟩
  | 10 => ⟨S_, .i32⟩
  | 11 => ⟨S4x128x128, .i32⟩
  | 12 => ⟨S4x128x128, .i32⟩
  | 13 => ⟨S4x128x128x1, .i32⟩
  | 14 => ⟨S1x1x1x20, .i32⟩
  | 15 => ⟨S4x128x128x20, .i32⟩
  | 16 => ⟨S4x128x128x20, .i32⟩
  | 17 => ⟨S4x128x128x20, .i1⟩
  | 18 => ⟨S4x128x128x20, .f32⟩
  | 19 => ⟨S4x20x128x128, .f32⟩
  | 20 => ⟨S_, .f32⟩
  | 21 => ⟨S4x20, .f32⟩
  | 22 => ⟨S4x20x64, .f32⟩
  | 23 => ⟨S4x20x1, .f32⟩
  | 24 => ⟨S_, .f32⟩
  | 25 => ⟨S4x20x1, .f32⟩
  | 26 => ⟨S4x20x1, .f32⟩
  | 27 => ⟨S4x20x64, .f32⟩
  | 28 => ⟨S4x20x64, .f32⟩
  | 29 => ⟨S4x20x1, .f32⟩
  | 30 => ⟨S_, .f32⟩
  | 31 => ⟨S4x20x1, .f32⟩
  | 32 => ⟨S4x20x1, .i1⟩
  | 33 => ⟨S_, .f32⟩
  | 34 => ⟨S_, .f32⟩
  | 35 => ⟨S4x20x64, .i1⟩
  | 36 => ⟨S4x20x64, .f32⟩
  | 37 => ⟨S4x20x64, .f32⟩
  | 38 => ⟨S_, .f32⟩
  | 39 => ⟨S4x64, .f32⟩
  | 40 => ⟨S_, .f32⟩
  | 41 => ⟨S4x64, .f32⟩
  | 42 => ⟨S4x64, .f32⟩
  | 43 => ⟨S4x1x64, .f32⟩
  | 44 => ⟨S4x21x64, .f32⟩
  | 45 => ⟨S4x20x64, .f32⟩
  | 46 => ⟨S20x64x4, .f32⟩
  | 47 => ⟨S4x20x64, .f32⟩
  | 48 => ⟨S1x20x64, .f32⟩
  | 49 => ⟨S4x20x64, .f32⟩
  | 50 => ⟨S4x20x64, .f32⟩
  | 51 => ⟨S_, .f32⟩
  | 52 => ⟨S4x20x64, .f32⟩
  | 53 => ⟨S4x20x64, .f32⟩
  | 54 => ⟨S4x1x64, .f32⟩
  | 55 => ⟨S4x64, .f32⟩
  | 56 => ⟨S1x64x64, .f32⟩
  | 57 => ⟨S64x64, .f32⟩
  | 58 => ⟨S64x64, .f32⟩
  | 59 => ⟨S4x64, .f32⟩
  | 60 => ⟨S1x64, .f32⟩
  | 61 => ⟨S64, .f32⟩
  | 62 => ⟨S1x64, .f32⟩
  | 63 => ⟨S4x64, .f32⟩
  | 64 => ⟨S4x64, .f32⟩
  | 65 => ⟨S_, .f32⟩
  | 66 => ⟨S4x64, .f32⟩
  | 67 => ⟨S4x64, .f32⟩
  | 68 => ⟨S20, .i32⟩
  | 69 => ⟨S1x20, .i32⟩
  | 70 => ⟨S_, .i32⟩
  | 71 => ⟨S1x20, .i32⟩
  | 72 => ⟨S1x20, .i1⟩
  | 73 => ⟨S_, .f32⟩
  | 74 => ⟨S4x20, .f32⟩
  | 75 => ⟨S_, .f32⟩
  | 76 => ⟨S4x20, .f32⟩
  | 77 => ⟨S4x20, .i1⟩
  | 78 => ⟨S4x20, .i1⟩
  | 79 => ⟨S4x20, .i1⟩
  | 80 => ⟨S4x20x1, .i1⟩
  | 81 => ⟨S4x1x64, .f32⟩
  | 82 => ⟨S4x20x64, .i1⟩
  | 83 => ⟨S4x20x64, .f32⟩
  | 84 => ⟨S4x20x64, .f32⟩
  | 85 => ⟨S4x64x128x128, .f32⟩
  | 86 => ⟨S_, .i32⟩
  | 87 => ⟨S_, .f32⟩
  | 88 => ⟨S4x64x130x130, .f32⟩
  | 89 => ⟨S4x64x128x128, .f32⟩
  | 90 => ⟨S64x64x1x1, .f32⟩
  | 91 => ⟨S64x64, .f32⟩
  | 92 => ⟨S64x4x128x128, .f32⟩
  | 93 => ⟨S4x64x128x128, .f32⟩
  | 94 => ⟨S_, .f32⟩
  | 95 => ⟨S4x64x128x128, .f32⟩
  | 96 => ⟨S4x64x128x128, .f32⟩
  | 97 => ⟨S4x64x128x128, .f32⟩
  | 98 => ⟨S64x64x1x1, .f32⟩
  | 99 => ⟨S64x64, .f32⟩
  | 100 => ⟨S64x4x128x128, .f32⟩
  | 101 => ⟨S4x64x128x128, .f32⟩
  | 102 => ⟨S4x64x128x128, .f32⟩
  | 103 => ⟨S4x64x128x128, .f32⟩
  | 104 => ⟨S64x64x1x1, .f32⟩
  | 105 => ⟨S64x64, .f32⟩
  | 106 => ⟨S64x4x128x128, .f32⟩
  | 107 => ⟨S4x64x128x128, .f32⟩
  | 108 => ⟨S4x64x128x128, .f32⟩
  | 109 => ⟨S4x64x128x128, .f32⟩
  | 110 => ⟨S64x64x1x1, .f32⟩
  | 111 => ⟨S64x64, .f32⟩
  | 112 => ⟨S64x4x128x128, .f32⟩
  | 113 => ⟨S4x64x128x128, .f32⟩
  | 114 => ⟨S4x64x128x128, .f32⟩
  | 115 => ⟨S4x64x128x128, .f32⟩
  | 116 => ⟨S64x64x1x1, .f32⟩
  | 117 => ⟨S64x64, .f32⟩
  | 118 => ⟨S64x4x128x128, .f32⟩
  | 119 => ⟨S4x64x128x128, .f32⟩
  | 120 => ⟨S4x64x128x128, .f32⟩
  | 121 => ⟨S4x64x128x128, .f32⟩
  | 122 => ⟨S64x64x1x1, .f32⟩
  | 123 => ⟨S64x64, .f32⟩
  | 124 => ⟨S64x4x128x128, .f32⟩
  | 125 => ⟨S4x64x128x128, .f32⟩
  | 126 => ⟨S4x64x128x128, .f32⟩
  | 127 => ⟨S4x64x128x128, .f32⟩
  | _ => ⟨S4x64x128x128, .f32⟩

abbrev hbmTy0_1 (i : Nat) : BufTy := match i % 128 with
  | 0 => ⟨S64x64x1x1, .f32⟩
  | 1 => ⟨S64x64, .f32⟩
  | 2 => ⟨S64x4x128x128, .f32⟩
  | 3 => ⟨S4x64x128x128, .f32⟩
  | 4 => ⟨S4x64x128x128, .f32⟩
  | 5 => ⟨S4x64x128x128, .f32⟩
  | 6 => ⟨S64x64x1x1, .f32⟩
  | 7 => ⟨S64x64, .f32⟩
  | 8 => ⟨S64x4x128x128, .f32⟩
  | 9 => ⟨S4x64x128x128, .f32⟩
  | 10 => ⟨S4x64x128x128, .f32⟩
  | 11 => ⟨S4x64x128x128, .f32⟩
  | 12 => ⟨S64x64x1x1, .f32⟩
  | 13 => ⟨S64x64, .f32⟩
  | 14 => ⟨S64x4x128x128, .f32⟩
  | 15 => ⟨S4x64x128x128, .f32⟩
  | 16 => ⟨S4x64x128x128, .f32⟩
  | 17 => ⟨S1x64x1x1, .f32⟩
  | 18 => ⟨S4x64x128x128, .f32⟩
  | 19 => ⟨S4x64x128x128, .f32⟩
  | 20 => ⟨S_, .f32⟩
  | 21 => ⟨S4x64x128x128, .f32⟩
  | 22 => ⟨S4x64x128x128, .f32⟩
  | 23 => ⟨S_, .i32⟩
  | 24 => ⟨S_, .f32⟩
  | 25 => ⟨S4x64x130x130, .f32⟩
  | 26 => ⟨S4x64x128x128, .f32⟩
  | 27 => ⟨S64x64x1x1, .f32⟩
  | 28 => ⟨S64x64, .f32⟩
  | 29 => ⟨S64x4x128x128, .f32⟩
  | 30 => ⟨S4x64x128x128, .f32⟩
  | 31 => ⟨S_, .f32⟩
  | 32 => ⟨S4x64x128x128, .f32⟩
  | 33 => ⟨S4x64x128x128, .f32⟩
  | 34 => ⟨S4x64x128x128, .f32⟩
  | 35 => ⟨S64x64x1x1, .f32⟩
  | 36 => ⟨S64x64, .f32⟩
  | 37 => ⟨S64x4x128x128, .f32⟩
  | 38 => ⟨S4x64x128x128, .f32⟩
  | 39 => ⟨S4x64x128x128, .f32⟩
  | 40 => ⟨S4x64x128x128, .f32⟩
  | 41 => ⟨S64x64x1x1, .f32⟩
  | 42 => ⟨S64x64, .f32⟩
  | 43 => ⟨S64x4x128x128, .f32⟩
  | 44 => ⟨S4x64x128x128, .f32⟩
  | 45 => ⟨S4x64x128x128, .f32⟩
  | 46 => ⟨S4x64x128x128, .f32⟩
  | 47 => ⟨S64x64x1x1, .f32⟩
  | 48 => ⟨S64x64, .f32⟩
  | 49 => ⟨S64x4x128x128, .f32⟩
  | 50 => ⟨S4x64x128x128, .f32⟩
  | 51 => ⟨S4x64x128x128, .f32⟩
  | 52 => ⟨S4x64x128x128, .f32⟩
  | 53 => ⟨S64x64x1x1, .f32⟩
  | 54 => ⟨S64x64, .f32⟩
  | 55 => ⟨S64x4x128x128, .f32⟩
  | 56 => ⟨S4x64x128x128, .f32⟩
  | 57 => ⟨S4x64x128x128, .f32⟩
  | 58 => ⟨S4x64x128x128, .f32⟩
  | 59 => ⟨S64x64x1x1, .f32⟩
  | 60 => ⟨S64x64, .f32⟩
  | 61 => ⟨S64x4x128x128, .f32⟩
  | 62 => ⟨S4x64x128x128, .f32⟩
  | 63 => ⟨S4x64x128x128, .f32⟩
  | 64 => ⟨S4x64x128x128, .f32⟩
  | 65 => ⟨S64x64x1x1, .f32⟩
  | 66 => ⟨S64x64, .f32⟩
  | 67 => ⟨S64x4x128x128, .f32⟩
  | 68 => ⟨S4x64x128x128, .f32⟩
  | 69 => ⟨S4x64x128x128, .f32⟩
  | 70 => ⟨S4x64x128x128, .f32⟩
  | 71 => ⟨S64x64x1x1, .f32⟩
  | 72 => ⟨S64x64, .f32⟩
  | 73 => ⟨S64x4x128x128, .f32⟩
  | 74 => ⟨S4x64x128x128, .f32⟩
  | 75 => ⟨S4x64x128x128, .f32⟩
  | 76 => ⟨S4x64x128x128, .f32⟩
  | 77 => ⟨S64x64x1x1, .f32⟩
  | 78 => ⟨S64x64, .f32⟩
  | 79 => ⟨S64x4x128x128, .f32⟩
  | 80 => ⟨S4x64x128x128, .f32⟩
  | 81 => ⟨S4x64x128x128, .f32⟩
  | 82 => ⟨S1x64x1x1, .f32⟩
  | 83 => ⟨S4x64x128x128, .f32⟩
  | 84 => ⟨S4x64x128x128, .f32⟩
  | 85 => ⟨S_, .f32⟩
  | 86 => ⟨S4x64x128x128, .f32⟩
  | 87 => ⟨S4x64x128x128, .f32⟩
  | 88 => ⟨S_, .i32⟩
  | 89 => ⟨S4x128x128, .i32⟩
  | 90 => ⟨S4x128x128, .i32⟩
  | 91 => ⟨S4x128x128x1, .i32⟩
  | 92 => ⟨S1x1x1x20, .i32⟩
  | 93 => ⟨S4x128x128x20, .i32⟩
  | 94 => ⟨S4x128x128x20, .i32⟩
  | 95 => ⟨S4x128x128x20, .i1⟩
  | 96 => ⟨S4x128x128x20, .f32⟩
  | 97 => ⟨S4x20x128x128, .f32⟩
  | 98 => ⟨S_, .f32⟩
  | 99 => ⟨S4x20, .f32⟩
  | 100 => ⟨S4x20x64, .f32⟩
  | 101 => ⟨S4x20x1, .f32⟩
  | 102 => ⟨S_, .f32⟩
  | 103 => ⟨S4x20x1, .f32⟩
  | 104 => ⟨S4x20x1, .f32⟩
  | 105 => ⟨S4x20x64, .f32⟩
  | 106 => ⟨S4x20x64, .f32⟩
  | 107 => ⟨S4x20x1, .f32⟩
  | 108 => ⟨S_, .f32⟩
  | 109 => ⟨S4x20x1, .f32⟩
  | 110 => ⟨S4x20x1, .i1⟩
  | 111 => ⟨S_, .f32⟩
  | 112 => ⟨S_, .f32⟩
  | 113 => ⟨S4x20x64, .i1⟩
  | 114 => ⟨S4x20x64, .f32⟩
  | 115 => ⟨S4x20x64, .f32⟩
  | 116 => ⟨S_, .f32⟩
  | 117 => ⟨S4x64, .f32⟩
  | 118 => ⟨S_, .f32⟩
  | 119 => ⟨S4x64, .f32⟩
  | 120 => ⟨S4x64, .f32⟩
  | 121 => ⟨S4x1x64, .f32⟩
  | 122 => ⟨S4x21x64, .f32⟩
  | 123 => ⟨S4x20x64, .f32⟩
  | 124 => ⟨S20x64x4, .f32⟩
  | 125 => ⟨S4x20x64, .f32⟩
  | 126 => ⟨S1x20x64, .f32⟩
  | 127 => ⟨S4x20x64, .f32⟩
  | _ => ⟨S4x64x128x128, .f32⟩

abbrev hbmTy0_2 (i : Nat) : BufTy := match i % 128 with
  | 0 => ⟨S4x20x64, .f32⟩
  | 1 => ⟨S_, .f32⟩
  | 2 => ⟨S4x20x64, .f32⟩
  | 3 => ⟨S4x20x64, .f32⟩
  | 4 => ⟨S4x1x64, .f32⟩
  | 5 => ⟨S4x64, .f32⟩
  | 6 => ⟨S1x64x64, .f32⟩
  | 7 => ⟨S64x64, .f32⟩
  | 8 => ⟨S64x64, .f32⟩
  | 9 => ⟨S4x64, .f32⟩
  | 10 => ⟨S1x64, .f32⟩
  | 11 => ⟨S64, .f32⟩
  | 12 => ⟨S1x64, .f32⟩
  | 13 => ⟨S4x64, .f32⟩
  | 14 => ⟨S4x64, .f32⟩
  | 15 => ⟨S_, .f32⟩
  | 16 => ⟨S4x64, .f32⟩
  | 17 => ⟨S4x64, .f32⟩
  | 18 => ⟨S20, .i32⟩
  | 19 => ⟨S1x20, .i32⟩
  | 20 => ⟨S_, .i32⟩
  | 21 => ⟨S1x20, .i32⟩
  | 22 => ⟨S1x20, .i1⟩
  | 23 => ⟨S_, .f32⟩
  | 24 => ⟨S4x20, .f32⟩
  | 25 => ⟨S_, .f32⟩
  | 26 => ⟨S4x20, .f32⟩
  | 27 => ⟨S4x20, .i1⟩
  | 28 => ⟨S4x20, .i1⟩
  | 29 => ⟨S4x20, .i1⟩
  | 30 => ⟨S4x20x1, .i1⟩
  | 31 => ⟨S4x1x64, .f32⟩
  | 32 => ⟨S4x20x64, .i1⟩
  | 33 => ⟨S4x20x64, .f32⟩
  | 34 => ⟨S4x20x64, .f32⟩
  | 35 => ⟨S4x64x128x128, .f32⟩
  | 36 => ⟨S_, .i32⟩
  | 37 => ⟨S_, .f32⟩
  | 38 => ⟨S4x64x130x130, .f32⟩
  | 39 => ⟨S4x64x128x128, .f32⟩
  | 40 => ⟨S64x64x1x1, .f32⟩
  | 41 => ⟨S64x64, .f32⟩
  | 42 => ⟨S64x4x128x128, .f32⟩
  | 43 => ⟨S4x64x128x128, .f32⟩
  | 44 => ⟨S_, .f32⟩
  | 45 => ⟨S4x64x128x128, .f32⟩
  | 46 => ⟨S4x64x128x128, .f32⟩
  | 47 => ⟨S4x64x128x128, .f32⟩
  | 48 => ⟨S64x64x1x1, .f32⟩
  | 49 => ⟨S64x64, .f32⟩
  | 50 => ⟨S64x4x128x128, .f32⟩
  | 51 => ⟨S4x64x128x128, .f32⟩
  | 52 => ⟨S4x64x128x128, .f32⟩
  | 53 => ⟨S4x64x128x128, .f32⟩
  | 54 => ⟨S64x64x1x1, .f32⟩
  | 55 => ⟨S64x64, .f32⟩
  | 56 => ⟨S64x4x128x128, .f32⟩
  | 57 => ⟨S4x64x128x128, .f32⟩
  | 58 => ⟨S4x64x128x128, .f32⟩
  | 59 => ⟨S4x64x128x128, .f32⟩
  | 60 => ⟨S64x64x1x1, .f32⟩
  | 61 => ⟨S64x64, .f32⟩
  | 62 => ⟨S64x4x128x128, .f32⟩
  | 63 => ⟨S4x64x128x128, .f32⟩
  | 64 => ⟨S4x64x128x128, .f32⟩
  | 65 => ⟨S4x64x128x128, .f32⟩
  | 66 => ⟨S64x64x1x1, .f32⟩
  | 67 => ⟨S64x64, .f32⟩
  | 68 => ⟨S64x4x128x128, .f32⟩
  | 69 => ⟨S4x64x128x128, .f32⟩
  | 70 => ⟨S4x64x128x128, .f32⟩
  | 71 => ⟨S4x64x128x128, .f32⟩
  | 72 => ⟨S64x64x1x1, .f32⟩
  | 73 => ⟨S64x64, .f32⟩
  | 74 => ⟨S64x4x128x128, .f32⟩
  | 75 => ⟨S4x64x128x128, .f32⟩
  | 76 => ⟨S4x64x128x128, .f32⟩
  | 77 => ⟨S4x64x128x128, .f32⟩
  | 78 => ⟨S64x64x1x1, .f32⟩
  | 79 => ⟨S64x64, .f32⟩
  | 80 => ⟨S64x4x128x128, .f32⟩
  | 81 => ⟨S4x64x128x128, .f32⟩
  | 82 => ⟨S4x64x128x128, .f32⟩
  | 83 => ⟨S4x64x128x128, .f32⟩
  | 84 => ⟨S64x64x1x1, .f32⟩
  | 85 => ⟨S64x64, .f32⟩
  | 86 => ⟨S64x4x128x128, .f32⟩
  | 87 => ⟨S4x64x128x128, .f32⟩
  | 88 => ⟨S4x64x128x128, .f32⟩
  | 89 => ⟨S4x64x128x128, .f32⟩
  | 90 => ⟨S64x64x1x1, .f32⟩
  | 91 => ⟨S64x64, .f32⟩
  | 92 => ⟨S64x4x128x128, .f32⟩
  | 93 => ⟨S4x64x128x128, .f32⟩
  | 94 => ⟨S4x64x128x128, .f32⟩
  | 95 => ⟨S1x64x1x1, .f32⟩
  | 96 => ⟨S4x64x128x128, .f32⟩
  | 97 => ⟨S4x64x128x128, .f32⟩
  | 98 => ⟨S_, .f32⟩
  | 99 => ⟨S4x64x128x128, .f32⟩
  | 100 => ⟨S4x64x128x128, .f32⟩
  | 101 => ⟨S_, .i32⟩
  | 102 => ⟨S_, .f32⟩
  | 103 => ⟨S4x64x130x130, .f32⟩
  | 104 => ⟨S4x64x128x128, .f32⟩
  | 105 => ⟨S64x64x1x1, .f32⟩
  | 106 => ⟨S64x64, .f32⟩
  | 107 => ⟨S64x4x128x128, .f32⟩
  | 108 => ⟨S4x64x128x128, .f32⟩
  | 109 => ⟨S_, .f32⟩
  | 110 => ⟨S4x64x128x128, .f32⟩
  | 111 => ⟨S4x64x128x128, .f32⟩
  | 112 => ⟨S4x64x128x128, .f32⟩
  | 113 => ⟨S64x64x1x1, .f32⟩
  | 114 => ⟨S64x64, .f32⟩
  | 115 => ⟨S64x4x128x128, .f32⟩
  | 116 => ⟨S4x64x128x128, .f32⟩
  | 117 => ⟨S4x64x128x128, .f32⟩
  | 118 => ⟨S4x64x128x128, .f32⟩
  | 119 => ⟨S64x64x1x1, .f32⟩
  | 120 => ⟨S64x64, .f32⟩
  | 121 => ⟨S64x4x128x128, .f32⟩
  | 122 => ⟨S4x64x128x128, .f32⟩
  | 123 => ⟨S4x64x128x128, .f32⟩
  | 124 => ⟨S4x64x128x128, .f32⟩
  | 125 => ⟨S64x64x1x1, .f32⟩
  | 126 => ⟨S64x64, .f32⟩
  | 127 => ⟨S64x4x128x128, .f32⟩
  | _ => ⟨S4x64x128x128, .f32⟩

abbrev hbmTy0_3 (i : Nat) : BufTy := match i % 128 with
  | 0 => ⟨S4x64x128x128, .f32⟩
  | 1 => ⟨S4x64x128x128, .f32⟩
  | 2 => ⟨S4x64x128x128, .f32⟩
  | 3 => ⟨S64x64x1x1, .f32⟩
  | 4 => ⟨S64x64, .f32⟩
  | 5 => ⟨S64x4x128x128, .f32⟩
  | 6 => ⟨S4x64x128x128, .f32⟩
  | 7 => ⟨S4x64x128x128, .f32⟩
  | 8 => ⟨S4x64x128x128, .f32⟩
  | 9 => ⟨S64x64x1x1, .f32⟩
  | 10 => ⟨S64x64, .f32⟩
  | 11 => ⟨S64x4x128x128, .f32⟩
  | 12 => ⟨S4x64x128x128, .f32⟩
  | 13 => ⟨S4x64x128x128, .f32⟩
  | 14 => ⟨S4x64x128x128, .f32⟩
  | 15 => ⟨S64x64x1x1, .f32⟩
  | 16 => ⟨S64x64, .f32⟩
  | 17 => ⟨S64x4x128x128, .f32⟩
  | 18 => ⟨S4x64x128x128, .f32⟩
  | 19 => ⟨S4x64x128x128, .f32⟩
  | 20 => ⟨S4x64x128x128, .f32⟩
  | 21 => ⟨S64x64x1x1, .f32⟩
  | 22 => ⟨S64x64, .f32⟩
  | 23 => ⟨S64x4x128x128, .f32⟩
  | 24 => ⟨S4x64x128x128, .f32⟩
  | 25 => ⟨S4x64x128x128, .f32⟩
  | 26 => ⟨S4x64x128x128, .f32⟩
  | 27 => ⟨S64x64x1x1, .f32⟩
  | 28 => ⟨S64x64, .f32⟩
  | 29 => ⟨S64x4x128x128, .f32⟩
  | 30 => ⟨S4x64x128x128, .f32⟩
  | 31 => ⟨S4x64x128x128, .f32⟩
  | 32 => ⟨S1x64x1x1, .f32⟩
  | 33 => ⟨S4x64x128x128, .f32⟩
  | 34 => ⟨S4x64x128x128, .f32⟩
  | 35 => ⟨S_, .f32⟩
  | 36 => ⟨S4x64x128x128, .f32⟩
  | 37 => ⟨S4x64x128x128, .f32⟩
  | 38 => ⟨S4x20x64, .f32⟩
  | 39 => ⟨S20x64x4, .f32⟩
  | 40 => ⟨S4x20x64, .f32⟩
  | 41 => ⟨S1x20x64, .f32⟩
  | 42 => ⟨S4x20x64, .f32⟩
  | 43 => ⟨S4x20x64, .f32⟩
  | 44 => ⟨S_, .f32⟩
  | 45 => ⟨S4x20x64, .f32⟩
  | 46 => ⟨S4x20x64, .f32⟩
  | 47 => ⟨S4x1x64, .f32⟩
  | 48 => ⟨S4x64, .f32⟩
  | 49 => ⟨S1x64x64, .f32⟩
  | 50 => ⟨S64x64, .f32⟩
  | 51 => ⟨S64x64, .f32⟩
  | 52 => ⟨S4x64, .f32⟩
  | 53 => ⟨S1x64, .f32⟩
  | 54 => ⟨S64, .f32⟩
  | 55 => ⟨S1x64, .f32⟩
  | 56 => ⟨S4x64, .f32⟩
  | 57 => ⟨S4x64, .f32⟩
  | 58 => ⟨S_, .f32⟩
  | 59 => ⟨S4x64, .f32⟩
  | 60 => ⟨S4x64, .f32⟩
  | 61 => ⟨S20, .i32⟩
  | 62 => ⟨S1x20, .i32⟩
  | 63 => ⟨S_, .i32⟩
  | 64 => ⟨S1x20, .i32⟩
  | 65 => ⟨S1x20, .i1⟩
  | 66 => ⟨S_, .f32⟩
  | 67 => ⟨S4x20, .f32⟩
  | 68 => ⟨S_, .f32⟩
  | 69 => ⟨S4x20, .f32⟩
  | 70 => ⟨S4x20, .i1⟩
  | 71 => ⟨S4x20, .i1⟩
  | 72 => ⟨S4x20, .i1⟩
  | 73 => ⟨S4x20x1, .i1⟩
  | 74 => ⟨S4x1x64, .f32⟩
  | 75 => ⟨S4x20x64, .i1⟩
  | 76 => ⟨S4x20x64, .f32⟩
  | 77 => ⟨S4x20x64, .f32⟩
  | 78 => ⟨S4x64x128x128, .f32⟩
  | 79 => ⟨S_, .i32⟩
  | 80 => ⟨S_, .f32⟩
  | 81 => ⟨S4x64x130x130, .f32⟩
  | 82 => ⟨S4x64x128x128, .f32⟩
  | 83 => ⟨S64x64x1x1, .f32⟩
  | 84 => ⟨S64x64, .f32⟩
  | 85 => ⟨S64x4x128x128, .f32⟩
  | 86 => ⟨S4x64x128x128, .f32⟩
  | 87 => ⟨S_, .f32⟩
  | 88 => ⟨S4x64x128x128, .f32⟩
  | 89 => ⟨S4x64x128x128, .f32⟩
  | 90 => ⟨S4x64x128x128, .f32⟩
  | 91 => ⟨S64x64x1x1, .f32⟩
  | 92 => ⟨S64x64, .f32⟩
  | 93 => ⟨S64x4x128x128, .f32⟩
  | 94 => ⟨S4x64x128x128, .f32⟩
  | 95 => ⟨S4x64x128x128, .f32⟩
  | 96 => ⟨S4x64x128x128, .f32⟩
  | 97 => ⟨S64x64x1x1, .f32⟩
  | 98 => ⟨S64x64, .f32⟩
  | 99 => ⟨S64x4x128x128, .f32⟩
  | 100 => ⟨S4x64x128x128, .f32⟩
  | 101 => ⟨S4x64x128x128, .f32⟩
  | 102 => ⟨S4x64x128x128, .f32⟩
  | 103 => ⟨S64x64x1x1, .f32⟩
  | 104 => ⟨S64x64, .f32⟩
  | 105 => ⟨S64x4x128x128, .f32⟩
  | 106 => ⟨S4x64x128x128, .f32⟩
  | 107 => ⟨S4x64x128x128, .f32⟩
  | 108 => ⟨S4x64x128x128, .f32⟩
  | 109 => ⟨S64x64x1x1, .f32⟩
  | 110 => ⟨S64x64, .f32⟩
  | 111 => ⟨S64x4x128x128, .f32⟩
  | 112 => ⟨S4x64x128x128, .f32⟩
  | 113 => ⟨S4x64x128x128, .f32⟩
  | 114 => ⟨S4x64x128x128, .f32⟩
  | 115 => ⟨S64x64x1x1, .f32⟩
  | 116 => ⟨S64x64, .f32⟩
  | 117 => ⟨S64x4x128x128, .f32⟩
  | 118 => ⟨S4x64x128x128, .f32⟩
  | 119 => ⟨S4x64x128x128, .f32⟩
  | 120 => ⟨S4x64x128x128, .f32⟩
  | 121 => ⟨S64x64x1x1, .f32⟩
  | 122 => ⟨S64x64, .f32⟩
  | 123 => ⟨S64x4x128x128, .f32⟩
  | 124 => ⟨S4x64x128x128, .f32⟩
  | 125 => ⟨S4x64x128x128, .f32⟩
  | 126 => ⟨S4x64x128x128, .f32⟩
  | 127 => ⟨S64x64x1x1, .f32⟩
  | _ => ⟨S4x64x128x128, .f32⟩

abbrev hbmTy0_4 (i : Nat) : BufTy := match i % 128 with
  | 0 => ⟨S64x64, .f32⟩
  | 1 => ⟨S64x4x128x128, .f32⟩
  | 2 => ⟨S4x64x128x128, .f32⟩
  | 3 => ⟨S4x64x128x128, .f32⟩
  | 4 => ⟨S4x64x128x128, .f32⟩
  | 5 => ⟨S64x64x1x1, .f32⟩
  | 6 => ⟨S64x64, .f32⟩
  | 7 => ⟨S64x4x128x128, .f32⟩
  | 8 => ⟨S4x64x128x128, .f32⟩
  | 9 => ⟨S4x64x128x128, .f32⟩
  | 10 => ⟨S1x64x1x1, .f32⟩
  | 11 => ⟨S4x64x128x128, .f32⟩
  | 12 => ⟨S4x64x128x128, .f32⟩
  | 13 => ⟨S_, .f32⟩
  | 14 => ⟨S4x64x128x128, .f32⟩
  | 15 => ⟨S4x64x128x128, .f32⟩
  | 16 => ⟨S_, .i32⟩
  | 17 => ⟨S_, .f32⟩
  | 18 => ⟨S4x64x130x130, .f32⟩
  | 19 => ⟨S4x64x128x128, .f32⟩
  | 20 => ⟨S64x64x1x1, .f32⟩
  | 21 => ⟨S64x64, .f32⟩
  | 22 => ⟨S64x4x128x128, .f32⟩
  | 23 => ⟨S4x64x128x128, .f32⟩
  | 24 => ⟨S_, .f32⟩
  | 25 => ⟨S4x64x128x128, .f32⟩
  | 26 => ⟨S4x64x128x128, .f32⟩
  | 27 => ⟨S4x64x128x128, .f32⟩
  | 28 => ⟨S64x64x1x1, .f32⟩
  | 29 => ⟨S64x64, .f32⟩
  | 30 => ⟨S64x4x128x128, .f32⟩
  | 31 => ⟨S4x64x128x128, .f32⟩
  | 32 => ⟨S4x64x128x128, .f32⟩
  | 33 => ⟨S4x64x128x128, .f32⟩
  | 34 => ⟨S64x64x1x1, .f32⟩
  | 35 => ⟨S64x64, .f32⟩
  | 36 => ⟨S64x4x128x128, .f32⟩
  | 37 => ⟨S4x64x128x128, .f32⟩
  | 38 => ⟨S4x64x128x128, .f32⟩
  | 39 => ⟨S4x64x128x128, .f32⟩
  | 40 => ⟨S64x64x1x1, .f32⟩
  | 41 => ⟨S64x64, .f32⟩
  | 42 => ⟨S64x4x128x128, .f32⟩
  | 43 => ⟨S4x64x128x128, .f32⟩
  | 44 => ⟨S4x64x128x128, .f32⟩
  | 45 => ⟨S4x64x128x128, .f32⟩
  | 46 => ⟨S64x64x1x1, .f32⟩
  | 47 => ⟨S64x64, .f32⟩
  | 48 => ⟨S64x4x128x128, .f32⟩
  | 49 => ⟨S4x64x128x128, .f32⟩
  | 50 => ⟨S4x64x128x128, .f32⟩
  | 51 => ⟨S4x64x128x128, .f32⟩
  | 52 => ⟨S64x64x1x1, .f32⟩
  | 53 => ⟨S64x64, .f32⟩
  | 54 => ⟨S64x4x128x128, .f32⟩
  | 55 => ⟨S4x64x128x128, .f32⟩
  | 56 => ⟨S4x64x128x128, .f32⟩
  | 57 => ⟨S4x64x128x128, .f32⟩
  | 58 => ⟨S64x64x1x1, .f32⟩
  | 59 => ⟨S64x64, .f32⟩
  | 60 => ⟨S64x4x128x128, .f32⟩
  | 61 => ⟨S4x64x128x128, .f32⟩
  | 62 => ⟨S4x64x128x128, .f32⟩
  | 63 => ⟨S4x64x128x128, .f32⟩
  | 64 => ⟨S64x64x1x1, .f32⟩
  | 65 => ⟨S64x64, .f32⟩
  | 66 => ⟨S64x4x128x128, .f32⟩
  | 67 => ⟨S4x64x128x128, .f32⟩
  | 68 => ⟨S4x64x128x128, .f32⟩
  | 69 => ⟨S4x64x128x128, .f32⟩
  | 70 => ⟨S64x64x1x1, .f32⟩
  | 71 => ⟨S64x64, .f32⟩
  | 72 => ⟨S64x4x128x128, .f32⟩
  | 73 => ⟨S4x64x128x128, .f32⟩
  | 74 => ⟨S4x64x128x128, .f32⟩
  | 75 => ⟨S1x64x1x1, .f32⟩
  | 76 => ⟨S4x64x128x128, .f32⟩
  | 77 => ⟨S4x64x128x128, .f32⟩
  | 78 => ⟨S_, .f32⟩
  | 79 => ⟨S4x64x128x128, .f32⟩
  | 80 => ⟨S4x64x128x128, .f32⟩
  | 81 => ⟨S4x20x64, .f32⟩
  | 82 => ⟨S20x64x4, .f32⟩
  | 83 => ⟨S4x20x64, .f32⟩
  | 84 => ⟨S1x20x64, .f32⟩
  | 85 => ⟨S4x20x64, .f32⟩
  | 86 => ⟨S4x20x64, .f32⟩
  | 87 => ⟨S_, .f32⟩
  | 88 => ⟨S4x20x64, .f32⟩
  | 89 => ⟨S4x20x64, .f32⟩
  | 90 => ⟨S4x1x64, .f32⟩
  | 91 => ⟨S4x64, .f32⟩
  | 92 => ⟨S1x64x64, .f32⟩
  | 93 => ⟨S64x64, .f32⟩
  | 94 => ⟨S64x64, .f32⟩
  | 95 => ⟨S4x64, .f32⟩
  | 96 => ⟨S1x64, .f32⟩
  | 97 => ⟨S64, .f32⟩
  | 98 => ⟨S1x64, .f32⟩
  | 99 => ⟨S4x64, .f32⟩
  | 100 => ⟨S4x64, .f32⟩
  | 101 => ⟨S_, .f32⟩
  | 102 => ⟨S4x64, .f32⟩
  | 103 => ⟨S4x64, .f32⟩
  | 104 => ⟨S20, .i32⟩
  | 105 => ⟨S1x20, .i32⟩
  | 106 => ⟨S_, .i32⟩
  | 107 => ⟨S1x20, .i32⟩
  | 108 => ⟨S1x20, .i1⟩
  | 109 => ⟨S_, .f32⟩
  | 110 => ⟨S4x20, .f32⟩
  | 111 => ⟨S_, .f32⟩
  | 112 => ⟨S4x20, .f32⟩
  | 113 => ⟨S4x20, .i1⟩
  | 114 => ⟨S4x20, .i1⟩
  | 115 => ⟨S4x20, .i1⟩
  | 116 => ⟨S4x20x1, .i1⟩
  | 117 => ⟨S4x1x64, .f32⟩
  | 118 => ⟨S4x20x64, .i1⟩
  | 119 => ⟨S4x20x64, .f32⟩
  | 120 => ⟨S4x20x64, .f32⟩
  | 121 => ⟨S4x64x128x128, .f32⟩
  | 122 => ⟨S_, .i32⟩
  | 123 => ⟨S_, .f32⟩
  | 124 => ⟨S4x64x130x130, .f32⟩
  | 125 => ⟨S4x64x128x128, .f32⟩
  | 126 => ⟨S64x64x1x1, .f32⟩
  | 127 => ⟨S64x64, .f32⟩
  | _ => ⟨S4x64x128x128, .f32⟩

abbrev hbmTy0_5 (i : Nat) : BufTy := match i % 128 with
  | 0 => ⟨S64x4x128x128, .f32⟩
  | 1 => ⟨S4x64x128x128, .f32⟩
  | 2 => ⟨S_, .f32⟩
  | 3 => ⟨S4x64x128x128, .f32⟩
  | 4 => ⟨S4x64x128x128, .f32⟩
  | 5 => ⟨S4x64x128x128, .f32⟩
  | 6 => ⟨S64x64x1x1, .f32⟩
  | 7 => ⟨S64x64, .f32⟩
  | 8 => ⟨S64x4x128x128, .f32⟩
  | 9 => ⟨S4x64x128x128, .f32⟩
  | 10 => ⟨S4x64x128x128, .f32⟩
  | 11 => ⟨S4x64x128x128, .f32⟩
  | 12 => ⟨S64x64x1x1, .f32⟩
  | 13 => ⟨S64x64, .f32⟩
  | 14 => ⟨S64x4x128x128, .f32⟩
  | 15 => ⟨S4x64x128x128, .f32⟩
  | 16 => ⟨S4x64x128x128, .f32⟩
  | 17 => ⟨S4x64x128x128, .f32⟩
  | 18 => ⟨S64x64x1x1, .f32⟩
  | 19 => ⟨S64x64, .f32⟩
  | 20 => ⟨S64x4x128x128, .f32⟩
  | 21 => ⟨S4x64x128x128, .f32⟩
  | 22 => ⟨S4x64x128x128, .f32⟩
  | 23 => ⟨S4x64x128x128, .f32⟩
  | 24 => ⟨S64x64x1x1, .f32⟩
  | 25 => ⟨S64x64, .f32⟩
  | 26 => ⟨S64x4x128x128, .f32⟩
  | 27 => ⟨S4x64x128x128, .f32⟩
  | 28 => ⟨S4x64x128x128, .f32⟩
  | 29 => ⟨S4x64x128x128, .f32⟩
  | 30 => ⟨S64x64x1x1, .f32⟩
  | 31 => ⟨S64x64, .f32⟩
  | 32 => ⟨S64x4x128x128, .f32⟩
  | 33 => ⟨S4x64x128x128, .f32⟩
  | 34 => ⟨S4x64x128x128, .f32⟩
  | 35 => ⟨S4x64x128x128, .f32⟩
  | 36 => ⟨S64x64x1x1, .f32⟩
  | 37 => ⟨S64x64, .f32⟩
  | 38 => ⟨S64x4x128x128, .f32⟩
  | 39 => ⟨S4x64x128x128, .f32⟩
  | 40 => ⟨S4x64x128x128, .f32⟩
  | 41 => ⟨S4x64x128x128, .f32⟩
  | 42 => ⟨S64x64x1x1, .f32⟩
  | 43 => ⟨S64x64, .f32⟩
  | 44 => ⟨S64x4x128x128, .f32⟩
  | 45 => ⟨S4x64x128x128, .f32⟩
  | 46 => ⟨S4x64x128x128, .f32⟩
  | 47 => ⟨S4x64x128x128, .f32⟩
  | 48 => ⟨S64x64x1x1, .f32⟩
  | 49 => ⟨S64x64, .f32⟩
  | 50 => ⟨S64x4x128x128, .f32⟩
  | 51 => ⟨S4x64x128x128, .f32⟩
  | 52 => ⟨S4x64x128x128, .f32⟩
  | 53 => ⟨S1x64x1x1, .f32⟩
  | 54 => ⟨S4x64x128x128, .f32⟩
  | 55 => ⟨S4x64x128x128, .f32⟩
  | 56 => ⟨S_, .f32⟩
  | 57 => ⟨S4x64x128x128, .f32⟩
  | 58 => ⟨S4x64x128x128, .f32⟩
  | 59 => ⟨S_, .i32⟩
  | 60 => ⟨S_, .f32⟩
  | 61 => ⟨S4x64x130x130, .f32⟩
  | 62 => ⟨S4x64x128x128, .f32⟩
  | 63 => ⟨S64x64x1x1, .f32⟩
  | 64 => ⟨S64x64, .f32⟩
  | 65 => ⟨S64x4x128x128, .f32⟩
  | 66 => ⟨S4x64x128x128, .f32⟩
  | 67 => ⟨S_, .f32⟩
  | 68 => ⟨S4x64x128x128, .f32⟩
  | 69 => ⟨S4x64x128x128, .f32⟩
  | 70 => ⟨S4x64x128x128, .f32⟩
  | 71 => ⟨S64x64x1x1, .f32⟩
  | 72 => ⟨S64x64, .f32⟩
  | 73 => ⟨S64x4x128x128, .f32⟩
  | 74 => ⟨S4x64x128x128, .f32⟩
  | 75 => ⟨S4x64x128x128, .f32⟩
  | 76 => ⟨S4x64x128x128, .f32⟩
  | 77 => ⟨S64x64x1x1, .f32⟩
  | 78 => ⟨S64x64, .f32⟩
  | 79 => ⟨S64x4x128x128, .f32⟩
  | 80 => ⟨S4x64x128x128, .f32⟩
  | 81 => ⟨S4x64x128x128, .f32⟩
  | 82 => ⟨S4x64x128x128, .f32⟩
  | 83 => ⟨S64x64x1x1, .f32⟩
  | 84 => ⟨S64x64, .f32⟩
  | 85 => ⟨S64x4x128x128, .f32⟩
  | 86 => ⟨S4x64x128x128, .f32⟩
  | 87 => ⟨S4x64x128x128, .f32⟩
  | 88 => ⟨S4x64x128x128, .f32⟩
  | 89 => ⟨S64x64x1x1, .f32⟩
  | 90 => ⟨S64x64, .f32⟩
  | 91 => ⟨S64x4x128x128, .f32⟩
  | 92 => ⟨S4x64x128x128, .f32⟩
  | 93 => ⟨S4x64x128x128, .f32⟩
  | 94 => ⟨S4x64x128x128, .f32⟩
  | 95 => ⟨S64x64x1x1, .f32⟩
  | 96 => ⟨S64x64, .f32⟩
  | 97 => ⟨S64x4x128x128, .f32⟩
  | 98 => ⟨S4x64x128x128, .f32⟩
  | 99 => ⟨S4x64x128x128, .f32⟩
  | 100 => ⟨S4x64x128x128, .f32⟩
  | 101 => ⟨S64x64x1x1, .f32⟩
  | 102 => ⟨S64x64, .f32⟩
  | 103 => ⟨S64x4x128x128, .f32⟩
  | 104 => ⟨S4x64x128x128, .f32⟩
  | 105 => ⟨S4x64x128x128, .f32⟩
  | 106 => ⟨S4x64x128x128, .f32⟩
  | 107 => ⟨S64x64x1x1, .f32⟩
  | 108 => ⟨S64x64, .f32⟩
  | 109 => ⟨S64x4x128x128, .f32⟩
  | 110 => ⟨S4x64x128x128, .f32⟩
  | 111 => ⟨S4x64x128x128, .f32⟩
  | 112 => ⟨S4x64x128x128, .f32⟩
  | 113 => ⟨S64x64x1x1, .f32⟩
  | 114 => ⟨S64x64, .f32⟩
  | 115 => ⟨S64x4x128x128, .f32⟩
  | 116 => ⟨S4x64x128x128, .f32⟩
  | 117 => ⟨S4x64x128x128, .f32⟩
  | 118 => ⟨S1x64x1x1, .f32⟩
  | 119 => ⟨S4x64x128x128, .f32⟩
  | 120 => ⟨S4x64x128x128, .f32⟩
  | 121 => ⟨S_, .f32⟩
  | 122 => ⟨S4x64x128x128, .f32⟩
  | 123 => ⟨S4x64x128x128, .f32⟩
  | 124 => ⟨S1x4x64x128x128, .f32⟩
  | 125 => ⟨S1x4x64x128x128, .f32⟩
  | 126 => ⟨S1x4x64x128x128, .f32⟩
  | 127 => ⟨S1x4x64x128x128, .f32⟩
  | _ => ⟨S4x64x128x128, .f32⟩

abbrev hbmTy0_6 (i : Nat) : BufTy := match i % 128 with
  | 0 => ⟨S1x4x64x128x128, .f32⟩
  | 1 => ⟨S1x4x64x128x128, .f32⟩
  | 2 => ⟨S1x4x64x128x128, .f32⟩
  | 3 => ⟨S1x4x64x128x128, .f32⟩
  | 4 => ⟨S8x4x64x128x128, .f32⟩
  | _ => ⟨S4x64x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x64x128x128, .f32⟩

abbrev bufTy : (tb : Table) → Fin (tcTables nBuf tb) → BufTy
  | .hbm, ⟨i, _⟩ => hbmTy i
  | _, _ => ⟨S4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_cst_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call2_cst : Ref sig .tc := ⟨.hbm, 51, rfl⟩
abbrev main_call2_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call3_cst : Ref sig .tc := ⟨.hbm, 65, rfl⟩
abbrev main_call3_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_5 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_cst_7 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call4_v0 : Ref sig .tc := ⟨.hbm, 82, rfl⟩
abbrev main_call4_v1 : Ref sig .tc := ⟨.hbm, 83, rfl⟩
abbrev main_v50 : Ref sig .tc := ⟨.hbm, 84, rfl⟩
abbrev main_v51 : Ref sig .tc := ⟨.hbm, 85, rfl⟩
abbrev main_c_8 : Ref sig .tc := ⟨.hbm, 86, rfl⟩
abbrev main_call5_v0 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_9 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_call6_cst : Ref sig .tc := ⟨.hbm, 148, rfl⟩
abbrev main_call6_v0 : Ref sig .tc := ⟨.hbm, 149, rfl⟩
abbrev main_v111 : Ref sig .tc := ⟨.hbm, 150, rfl⟩
abbrev main_c_10 : Ref sig .tc := ⟨.hbm, 151, rfl⟩
abbrev main_call7_v0 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_11 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_call8_cst : Ref sig .tc := ⟨.hbm, 213, rfl⟩
abbrev main_call8_v0 : Ref sig .tc := ⟨.hbm, 214, rfl⟩
abbrev main_v171 : Ref sig .tc := ⟨.hbm, 215, rfl⟩
abbrev main_c_12 : Ref sig .tc := ⟨.hbm, 216, rfl⟩
abbrev main_v172 : Ref sig .tc := ⟨.hbm, 217, rfl⟩
abbrev main_v173 : Ref sig .tc := ⟨.hbm, 218, rfl⟩
abbrev main_call9_v0 : Ref sig .tc := ⟨.hbm, 219, rfl⟩
abbrev main_call9_v1 : Ref sig .tc := ⟨.hbm, 220, rfl⟩
abbrev main_call9_v2 : Ref sig .tc := ⟨.hbm, 221, rfl⟩
abbrev main_call9_v3 : Ref sig .tc := ⟨.hbm, 222, rfl⟩
abbrev main_call9_v4 : Ref sig .tc := ⟨.hbm, 223, rfl⟩
abbrev main_v174 : Ref sig .tc := ⟨.hbm, 224, rfl⟩
abbrev main_v175 : Ref sig .tc := ⟨.hbm, 225, rfl⟩
abbrev main_cst_13 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_cst_14 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_cst_15 : Ref sig .tc := ⟨.hbm, 236, rfl⟩
abbrev main_v184 : Ref sig .tc := ⟨.hbm, 237, rfl⟩
abbrev main_v185 : Ref sig .tc := ⟨.hbm, 238, rfl⟩
abbrev main_cst_16 : Ref sig .tc := ⟨.hbm, 239, rfl⟩
abbrev main_call10_v0 : Ref sig .tc := ⟨.hbm, 240, rfl⟩
abbrev main_call10_v1 : Ref sig .tc := ⟨.hbm, 241, rfl⟩
abbrev main_call10_v2 : Ref sig .tc := ⟨.hbm, 242, rfl⟩
abbrev main_v186 : Ref sig .tc := ⟨.hbm, 243, rfl⟩
abbrev main_cst_17 : Ref sig .tc := ⟨.hbm, 244, rfl⟩
abbrev main_v187 : Ref sig .tc := ⟨.hbm, 245, rfl⟩
abbrev main_cst_18 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_call11_cst : Ref sig .tc := ⟨.hbm, 257, rfl⟩
abbrev main_call11_v0 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_call12_cst : Ref sig .tc := ⟨.hbm, 271, rfl⟩
abbrev main_call12_v0 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_c_19 : Ref sig .tc := ⟨.hbm, 276, rfl⟩
abbrev main_v213 : Ref sig .tc := ⟨.hbm, 277, rfl⟩
abbrev main_v214 : Ref sig .tc := ⟨.hbm, 278, rfl⟩
abbrev main_cst_20 : Ref sig .tc := ⟨.hbm, 279, rfl⟩
abbrev main_v215 : Ref sig .tc := ⟨.hbm, 280, rfl⟩
abbrev main_cst_21 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_call13_v0 : Ref sig .tc := ⟨.hbm, 288, rfl⟩
abbrev main_call13_v1 : Ref sig .tc := ⟨.hbm, 289, rfl⟩
abbrev main_v222 : Ref sig .tc := ⟨.hbm, 290, rfl⟩
abbrev main_v223 : Ref sig .tc := ⟨.hbm, 291, rfl⟩
abbrev main_c_22 : Ref sig .tc := ⟨.hbm, 292, rfl⟩
abbrev main_call14_v0 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_cst_23 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_call15_cst : Ref sig .tc := ⟨.hbm, 354, rfl⟩
abbrev main_call15_v0 : Ref sig .tc := ⟨.hbm, 355, rfl⟩
abbrev main_v283 : Ref sig .tc := ⟨.hbm, 356, rfl⟩
abbrev main_c_24 : Ref sig .tc := ⟨.hbm, 357, rfl⟩
abbrev main_call16_v0 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_cst_25 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_v311 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_v322 : Ref sig .tc := ⟨.hbm, 398, rfl⟩
abbrev main_v323 : Ref sig .tc := ⟨.hbm, 399, rfl⟩
abbrev main_v324 : Ref sig .tc := ⟨.hbm, 400, rfl⟩
abbrev main_v325 : Ref sig .tc := ⟨.hbm, 401, rfl⟩
abbrev main_v326 : Ref sig .tc := ⟨.hbm, 402, rfl⟩
abbrev main_v327 : Ref sig .tc := ⟨.hbm, 403, rfl⟩
abbrev main_v328 : Ref sig .tc := ⟨.hbm, 404, rfl⟩
abbrev main_v329 : Ref sig .tc := ⟨.hbm, 405, rfl⟩
abbrev main_v330 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_v340 : Ref sig .tc := ⟨.hbm, 416, rfl⟩
abbrev main_v341 : Ref sig .tc := ⟨.hbm, 417, rfl⟩
abbrev main_v342 : Ref sig .tc := ⟨.hbm, 418, rfl⟩
abbrev main_call17_cst : Ref sig .tc := ⟨.hbm, 419, rfl⟩
abbrev main_call17_v0 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_call18_cst : Ref sig .tc := ⟨.hbm, 428, rfl⟩
abbrev main_call18_v0 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_v355 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_call19_cst : Ref sig .tc := ⟨.hbm, 442, rfl⟩
abbrev main_call19_v0 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_c_26 : Ref sig .tc := ⟨.hbm, 447, rfl⟩
abbrev main_v365 : Ref sig .tc := ⟨.hbm, 448, rfl⟩
abbrev main_v366 : Ref sig .tc := ⟨.hbm, 449, rfl⟩
abbrev main_cst_27 : Ref sig .tc := ⟨.hbm, 450, rfl⟩
abbrev main_v367 : Ref sig .tc := ⟨.hbm, 451, rfl⟩
abbrev main_cst_28 : Ref sig .tc := ⟨.hbm, 452, rfl⟩
abbrev main_v368 : Ref sig .tc := ⟨.hbm, 453, rfl⟩
abbrev main_v369 : Ref sig .tc := ⟨.hbm, 454, rfl⟩
abbrev main_v370 : Ref sig .tc := ⟨.hbm, 455, rfl⟩
abbrev main_v371 : Ref sig .tc := ⟨.hbm, 456, rfl⟩
abbrev main_v372 : Ref sig .tc := ⟨.hbm, 457, rfl⟩
abbrev main_v373 : Ref sig .tc := ⟨.hbm, 458, rfl⟩
abbrev main_call20_v0 : Ref sig .tc := ⟨.hbm, 459, rfl⟩
abbrev main_call20_v1 : Ref sig .tc := ⟨.hbm, 460, rfl⟩
abbrev main_v374 : Ref sig .tc := ⟨.hbm, 461, rfl⟩
abbrev main_v375 : Ref sig .tc := ⟨.hbm, 462, rfl⟩
abbrev main_c_29 : Ref sig .tc := ⟨.hbm, 463, rfl⟩
abbrev main_call21_v0 : Ref sig .tc := ⟨.hbm, 464, rfl⟩
abbrev main_v376 : Ref sig .tc := ⟨.hbm, 465, rfl⟩
abbrev main_v377 : Ref sig .tc := ⟨.hbm, 466, rfl⟩
abbrev main_v378 : Ref sig .tc := ⟨.hbm, 467, rfl⟩
abbrev main_v379 : Ref sig .tc := ⟨.hbm, 468, rfl⟩
abbrev main_v380 : Ref sig .tc := ⟨.hbm, 469, rfl⟩
abbrev main_v381 : Ref sig .tc := ⟨.hbm, 470, rfl⟩
abbrev main_cst_30 : Ref sig .tc := ⟨.hbm, 471, rfl⟩
abbrev main_v382 : Ref sig .tc := ⟨.hbm, 472, rfl⟩
abbrev main_v383 : Ref sig .tc := ⟨.hbm, 473, rfl⟩
abbrev main_v384 : Ref sig .tc := ⟨.hbm, 474, rfl⟩
abbrev main_v385 : Ref sig .tc := ⟨.hbm, 475, rfl⟩
abbrev main_v386 : Ref sig .tc := ⟨.hbm, 476, rfl⟩
abbrev main_v387 : Ref sig .tc := ⟨.hbm, 477, rfl⟩
abbrev main_v388 : Ref sig .tc := ⟨.hbm, 478, rfl⟩
abbrev main_v389 : Ref sig .tc := ⟨.hbm, 479, rfl⟩
abbrev main_v390 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_v395 : Ref sig .tc := ⟨.hbm, 485, rfl⟩
abbrev main_v396 : Ref sig .tc := ⟨.hbm, 486, rfl⟩
abbrev main_v397 : Ref sig .tc := ⟨.hbm, 487, rfl⟩
abbrev main_v398 : Ref sig .tc := ⟨.hbm, 488, rfl⟩
abbrev main_v399 : Ref sig .tc := ⟨.hbm, 489, rfl⟩
abbrev main_v400 : Ref sig .tc := ⟨.hbm, 490, rfl⟩
abbrev main_v401 : Ref sig .tc := ⟨.hbm, 491, rfl⟩
abbrev main_v402 : Ref sig .tc := ⟨.hbm, 492, rfl⟩
abbrev main_v403 : Ref sig .tc := ⟨.hbm, 493, rfl⟩
abbrev main_v404 : Ref sig .tc := ⟨.hbm, 494, rfl⟩
abbrev main_v405 : Ref sig .tc := ⟨.hbm, 495, rfl⟩
abbrev main_v406 : Ref sig .tc := ⟨.hbm, 496, rfl⟩
abbrev main_v407 : Ref sig .tc := ⟨.hbm, 497, rfl⟩
abbrev main_v408 : Ref sig .tc := ⟨.hbm, 498, rfl⟩
abbrev main_v409 : Ref sig .tc := ⟨.hbm, 499, rfl⟩
abbrev main_v410 : Ref sig .tc := ⟨.hbm, 500, rfl⟩
abbrev main_v411 : Ref sig .tc := ⟨.hbm, 501, rfl⟩
abbrev main_v412 : Ref sig .tc := ⟨.hbm, 502, rfl⟩
abbrev main_v413 : Ref sig .tc := ⟨.hbm, 503, rfl⟩
abbrev main_v414 : Ref sig .tc := ⟨.hbm, 504, rfl⟩
abbrev main_v415 : Ref sig .tc := ⟨.hbm, 505, rfl⟩
abbrev main_v416 : Ref sig .tc := ⟨.hbm, 506, rfl⟩
abbrev main_v417 : Ref sig .tc := ⟨.hbm, 507, rfl⟩
abbrev main_v418 : Ref sig .tc := ⟨.hbm, 508, rfl⟩
abbrev main_v419 : Ref sig .tc := ⟨.hbm, 509, rfl⟩
abbrev main_v420 : Ref sig .tc := ⟨.hbm, 510, rfl⟩
abbrev main_v421 : Ref sig .tc := ⟨.hbm, 511, rfl⟩
abbrev main_v422 : Ref sig .tc := ⟨.hbm, 512, rfl⟩
abbrev main_v423 : Ref sig .tc := ⟨.hbm, 513, rfl⟩
abbrev main_v424 : Ref sig .tc := ⟨.hbm, 514, rfl⟩
abbrev main_v425 : Ref sig .tc := ⟨.hbm, 515, rfl⟩
abbrev main_v426 : Ref sig .tc := ⟨.hbm, 516, rfl⟩
abbrev main_v427 : Ref sig .tc := ⟨.hbm, 517, rfl⟩
abbrev main_v428 : Ref sig .tc := ⟨.hbm, 518, rfl⟩
abbrev main_v429 : Ref sig .tc := ⟨.hbm, 519, rfl⟩
abbrev main_v430 : Ref sig .tc := ⟨.hbm, 520, rfl⟩
abbrev main_v431 : Ref sig .tc := ⟨.hbm, 521, rfl⟩
abbrev main_v432 : Ref sig .tc := ⟨.hbm, 522, rfl⟩
abbrev main_v433 : Ref sig .tc := ⟨.hbm, 523, rfl⟩
abbrev main_v434 : Ref sig .tc := ⟨.hbm, 524, rfl⟩
abbrev main_call22_cst : Ref sig .tc := ⟨.hbm, 525, rfl⟩
abbrev main_call22_v0 : Ref sig .tc := ⟨.hbm, 526, rfl⟩
abbrev main_v435 : Ref sig .tc := ⟨.hbm, 527, rfl⟩
abbrev main_c_31 : Ref sig .tc := ⟨.hbm, 528, rfl⟩
abbrev main_call23_v0 : Ref sig .tc := ⟨.hbm, 529, rfl⟩
abbrev main_v436 : Ref sig .tc := ⟨.hbm, 530, rfl⟩
abbrev main_v437 : Ref sig .tc := ⟨.hbm, 531, rfl⟩
abbrev main_v438 : Ref sig .tc := ⟨.hbm, 532, rfl⟩
abbrev main_v439 : Ref sig .tc := ⟨.hbm, 533, rfl⟩
abbrev main_v440 : Ref sig .tc := ⟨.hbm, 534, rfl⟩
abbrev main_v441 : Ref sig .tc := ⟨.hbm, 535, rfl⟩
abbrev main_cst_32 : Ref sig .tc := ⟨.hbm, 536, rfl⟩
abbrev main_v442 : Ref sig .tc := ⟨.hbm, 537, rfl⟩
abbrev main_v443 : Ref sig .tc := ⟨.hbm, 538, rfl⟩
abbrev main_v444 : Ref sig .tc := ⟨.hbm, 539, rfl⟩
abbrev main_v445 : Ref sig .tc := ⟨.hbm, 540, rfl⟩
abbrev main_v446 : Ref sig .tc := ⟨.hbm, 541, rfl⟩
abbrev main_v447 : Ref sig .tc := ⟨.hbm, 542, rfl⟩
abbrev main_v448 : Ref sig .tc := ⟨.hbm, 543, rfl⟩
abbrev main_v449 : Ref sig .tc := ⟨.hbm, 544, rfl⟩
abbrev main_v450 : Ref sig .tc := ⟨.hbm, 545, rfl⟩
abbrev main_v451 : Ref sig .tc := ⟨.hbm, 546, rfl⟩
abbrev main_v452 : Ref sig .tc := ⟨.hbm, 547, rfl⟩
abbrev main_v453 : Ref sig .tc := ⟨.hbm, 548, rfl⟩
abbrev main_v454 : Ref sig .tc := ⟨.hbm, 549, rfl⟩
abbrev main_v455 : Ref sig .tc := ⟨.hbm, 550, rfl⟩
abbrev main_v456 : Ref sig .tc := ⟨.hbm, 551, rfl⟩
abbrev main_v457 : Ref sig .tc := ⟨.hbm, 552, rfl⟩
abbrev main_v458 : Ref sig .tc := ⟨.hbm, 553, rfl⟩
abbrev main_v459 : Ref sig .tc := ⟨.hbm, 554, rfl⟩
abbrev main_v460 : Ref sig .tc := ⟨.hbm, 555, rfl⟩
abbrev main_v461 : Ref sig .tc := ⟨.hbm, 556, rfl⟩
abbrev main_v462 : Ref sig .tc := ⟨.hbm, 557, rfl⟩
abbrev main_v463 : Ref sig .tc := ⟨.hbm, 558, rfl⟩
abbrev main_v464 : Ref sig .tc := ⟨.hbm, 559, rfl⟩
abbrev main_v465 : Ref sig .tc := ⟨.hbm, 560, rfl⟩
abbrev main_v466 : Ref sig .tc := ⟨.hbm, 561, rfl⟩
abbrev main_v467 : Ref sig .tc := ⟨.hbm, 562, rfl⟩
abbrev main_v468 : Ref sig .tc := ⟨.hbm, 563, rfl⟩
abbrev main_v469 : Ref sig .tc := ⟨.hbm, 564, rfl⟩
abbrev main_v470 : Ref sig .tc := ⟨.hbm, 565, rfl⟩
abbrev main_v471 : Ref sig .tc := ⟨.hbm, 566, rfl⟩
abbrev main_v472 : Ref sig .tc := ⟨.hbm, 567, rfl⟩
abbrev main_v473 : Ref sig .tc := ⟨.hbm, 568, rfl⟩
abbrev main_v474 : Ref sig .tc := ⟨.hbm, 569, rfl⟩
abbrev main_v475 : Ref sig .tc := ⟨.hbm, 570, rfl⟩
abbrev main_v476 : Ref sig .tc := ⟨.hbm, 571, rfl⟩
abbrev main_v477 : Ref sig .tc := ⟨.hbm, 572, rfl⟩
abbrev main_v478 : Ref sig .tc := ⟨.hbm, 573, rfl⟩
abbrev main_v479 : Ref sig .tc := ⟨.hbm, 574, rfl⟩
abbrev main_v480 : Ref sig .tc := ⟨.hbm, 575, rfl⟩
abbrev main_v481 : Ref sig .tc := ⟨.hbm, 576, rfl⟩
abbrev main_v482 : Ref sig .tc := ⟨.hbm, 577, rfl⟩
abbrev main_v483 : Ref sig .tc := ⟨.hbm, 578, rfl⟩
abbrev main_v484 : Ref sig .tc := ⟨.hbm, 579, rfl⟩
abbrev main_v485 : Ref sig .tc := ⟨.hbm, 580, rfl⟩
abbrev main_v486 : Ref sig .tc := ⟨.hbm, 581, rfl⟩
abbrev main_v487 : Ref sig .tc := ⟨.hbm, 582, rfl⟩
abbrev main_v488 : Ref sig .tc := ⟨.hbm, 583, rfl⟩
abbrev main_v489 : Ref sig .tc := ⟨.hbm, 584, rfl⟩
abbrev main_v490 : Ref sig .tc := ⟨.hbm, 585, rfl⟩
abbrev main_v491 : Ref sig .tc := ⟨.hbm, 586, rfl⟩
abbrev main_v492 : Ref sig .tc := ⟨.hbm, 587, rfl⟩
abbrev main_v493 : Ref sig .tc := ⟨.hbm, 588, rfl⟩
abbrev main_v494 : Ref sig .tc := ⟨.hbm, 589, rfl⟩
abbrev main_call24_cst : Ref sig .tc := ⟨.hbm, 590, rfl⟩
abbrev main_call24_v0 : Ref sig .tc := ⟨.hbm, 591, rfl⟩
abbrev main_v495 : Ref sig .tc := ⟨.hbm, 592, rfl⟩
abbrev main_v496 : Ref sig .tc := ⟨.hbm, 593, rfl⟩
abbrev main_v497 : Ref sig .tc := ⟨.hbm, 594, rfl⟩
abbrev main_v498 : Ref sig .tc := ⟨.hbm, 595, rfl⟩
abbrev main_v499 : Ref sig .tc := ⟨.hbm, 596, rfl⟩
abbrev main_v500 : Ref sig .tc := ⟨.hbm, 597, rfl⟩
abbrev main_v501 : Ref sig .tc := ⟨.hbm, 598, rfl⟩
abbrev main_call25_cst : Ref sig .tc := ⟨.hbm, 599, rfl⟩
abbrev main_call25_v0 : Ref sig .tc := ⟨.hbm, 600, rfl⟩
abbrev main_v502 : Ref sig .tc := ⟨.hbm, 601, rfl⟩
abbrev main_v503 : Ref sig .tc := ⟨.hbm, 602, rfl⟩
abbrev main_v504 : Ref sig .tc := ⟨.hbm, 603, rfl⟩
abbrev main_v505 : Ref sig .tc := ⟨.hbm, 604, rfl⟩
abbrev main_v506 : Ref sig .tc := ⟨.hbm, 605, rfl⟩
abbrev main_v507 : Ref sig .tc := ⟨.hbm, 606, rfl⟩
abbrev main_v508 : Ref sig .tc := ⟨.hbm, 607, rfl⟩
abbrev main_v509 : Ref sig .tc := ⟨.hbm, 608, rfl⟩
abbrev main_v510 : Ref sig .tc := ⟨.hbm, 609, rfl⟩
abbrev main_v511 : Ref sig .tc := ⟨.hbm, 610, rfl⟩
abbrev main_v512 : Ref sig .tc := ⟨.hbm, 611, rfl⟩
abbrev main_v513 : Ref sig .tc := ⟨.hbm, 612, rfl⟩
abbrev main_call26_cst : Ref sig .tc := ⟨.hbm, 613, rfl⟩
abbrev main_call26_v0 : Ref sig .tc := ⟨.hbm, 614, rfl⟩
abbrev main_v514 : Ref sig .tc := ⟨.hbm, 615, rfl⟩
abbrev main_v515 : Ref sig .tc := ⟨.hbm, 616, rfl⟩
abbrev main_v516 : Ref sig .tc := ⟨.hbm, 617, rfl⟩
abbrev main_c_33 : Ref sig .tc := ⟨.hbm, 618, rfl⟩
abbrev main_v517 : Ref sig .tc := ⟨.hbm, 619, rfl⟩
abbrev main_v518 : Ref sig .tc := ⟨.hbm, 620, rfl⟩
abbrev main_cst_34 : Ref sig .tc := ⟨.hbm, 621, rfl⟩
abbrev main_v519 : Ref sig .tc := ⟨.hbm, 622, rfl⟩
abbrev main_cst_35 : Ref sig .tc := ⟨.hbm, 623, rfl⟩
abbrev main_v520 : Ref sig .tc := ⟨.hbm, 624, rfl⟩
abbrev main_v521 : Ref sig .tc := ⟨.hbm, 625, rfl⟩
abbrev main_v522 : Ref sig .tc := ⟨.hbm, 626, rfl⟩
abbrev main_v523 : Ref sig .tc := ⟨.hbm, 627, rfl⟩
abbrev main_v524 : Ref sig .tc := ⟨.hbm, 628, rfl⟩
abbrev main_v525 : Ref sig .tc := ⟨.hbm, 629, rfl⟩
abbrev main_call27_v0 : Ref sig .tc := ⟨.hbm, 630, rfl⟩
abbrev main_call27_v1 : Ref sig .tc := ⟨.hbm, 631, rfl⟩
abbrev main_v526 : Ref sig .tc := ⟨.hbm, 632, rfl⟩
abbrev main_v527 : Ref sig .tc := ⟨.hbm, 633, rfl⟩
abbrev main_c_36 : Ref sig .tc := ⟨.hbm, 634, rfl⟩
abbrev main_call28_v0 : Ref sig .tc := ⟨.hbm, 635, rfl⟩
abbrev main_v528 : Ref sig .tc := ⟨.hbm, 636, rfl⟩
abbrev main_v529 : Ref sig .tc := ⟨.hbm, 637, rfl⟩
abbrev main_v530 : Ref sig .tc := ⟨.hbm, 638, rfl⟩
abbrev main_v531 : Ref sig .tc := ⟨.hbm, 639, rfl⟩
abbrev main_v532 : Ref sig .tc := ⟨.hbm, 640, rfl⟩
abbrev main_v533 : Ref sig .tc := ⟨.hbm, 641, rfl⟩
abbrev main_cst_37 : Ref sig .tc := ⟨.hbm, 642, rfl⟩
abbrev main_v534 : Ref sig .tc := ⟨.hbm, 643, rfl⟩
abbrev main_v535 : Ref sig .tc := ⟨.hbm, 644, rfl⟩
abbrev main_v536 : Ref sig .tc := ⟨.hbm, 645, rfl⟩
abbrev main_v537 : Ref sig .tc := ⟨.hbm, 646, rfl⟩
abbrev main_v538 : Ref sig .tc := ⟨.hbm, 647, rfl⟩
abbrev main_v539 : Ref sig .tc := ⟨.hbm, 648, rfl⟩
abbrev main_v540 : Ref sig .tc := ⟨.hbm, 649, rfl⟩
abbrev main_v541 : Ref sig .tc := ⟨.hbm, 650, rfl⟩
abbrev main_v542 : Ref sig .tc := ⟨.hbm, 651, rfl⟩
abbrev main_v543 : Ref sig .tc := ⟨.hbm, 652, rfl⟩
abbrev main_v544 : Ref sig .tc := ⟨.hbm, 653, rfl⟩
abbrev main_v545 : Ref sig .tc := ⟨.hbm, 654, rfl⟩
abbrev main_v546 : Ref sig .tc := ⟨.hbm, 655, rfl⟩
abbrev main_v547 : Ref sig .tc := ⟨.hbm, 656, rfl⟩
abbrev main_v548 : Ref sig .tc := ⟨.hbm, 657, rfl⟩
abbrev main_v549 : Ref sig .tc := ⟨.hbm, 658, rfl⟩
abbrev main_v550 : Ref sig .tc := ⟨.hbm, 659, rfl⟩
abbrev main_v551 : Ref sig .tc := ⟨.hbm, 660, rfl⟩
abbrev main_v552 : Ref sig .tc := ⟨.hbm, 661, rfl⟩
abbrev main_v553 : Ref sig .tc := ⟨.hbm, 662, rfl⟩
abbrev main_v554 : Ref sig .tc := ⟨.hbm, 663, rfl⟩
abbrev main_v555 : Ref sig .tc := ⟨.hbm, 664, rfl⟩
abbrev main_v556 : Ref sig .tc := ⟨.hbm, 665, rfl⟩
abbrev main_v557 : Ref sig .tc := ⟨.hbm, 666, rfl⟩
abbrev main_v558 : Ref sig .tc := ⟨.hbm, 667, rfl⟩
abbrev main_v559 : Ref sig .tc := ⟨.hbm, 668, rfl⟩
abbrev main_v560 : Ref sig .tc := ⟨.hbm, 669, rfl⟩
abbrev main_v561 : Ref sig .tc := ⟨.hbm, 670, rfl⟩
abbrev main_v562 : Ref sig .tc := ⟨.hbm, 671, rfl⟩
abbrev main_v563 : Ref sig .tc := ⟨.hbm, 672, rfl⟩
abbrev main_v564 : Ref sig .tc := ⟨.hbm, 673, rfl⟩
abbrev main_v565 : Ref sig .tc := ⟨.hbm, 674, rfl⟩
abbrev main_v566 : Ref sig .tc := ⟨.hbm, 675, rfl⟩
abbrev main_v567 : Ref sig .tc := ⟨.hbm, 676, rfl⟩
abbrev main_v568 : Ref sig .tc := ⟨.hbm, 677, rfl⟩
abbrev main_v569 : Ref sig .tc := ⟨.hbm, 678, rfl⟩
abbrev main_v570 : Ref sig .tc := ⟨.hbm, 679, rfl⟩
abbrev main_v571 : Ref sig .tc := ⟨.hbm, 680, rfl⟩
abbrev main_v572 : Ref sig .tc := ⟨.hbm, 681, rfl⟩
abbrev main_v573 : Ref sig .tc := ⟨.hbm, 682, rfl⟩
abbrev main_v574 : Ref sig .tc := ⟨.hbm, 683, rfl⟩
abbrev main_v575 : Ref sig .tc := ⟨.hbm, 684, rfl⟩
abbrev main_v576 : Ref sig .tc := ⟨.hbm, 685, rfl⟩
abbrev main_v577 : Ref sig .tc := ⟨.hbm, 686, rfl⟩
abbrev main_v578 : Ref sig .tc := ⟨.hbm, 687, rfl⟩
abbrev main_v579 : Ref sig .tc := ⟨.hbm, 688, rfl⟩
abbrev main_v580 : Ref sig .tc := ⟨.hbm, 689, rfl⟩
abbrev main_v581 : Ref sig .tc := ⟨.hbm, 690, rfl⟩
abbrev main_v582 : Ref sig .tc := ⟨.hbm, 691, rfl⟩
abbrev main_v583 : Ref sig .tc := ⟨.hbm, 692, rfl⟩
abbrev main_v584 : Ref sig .tc := ⟨.hbm, 693, rfl⟩
abbrev main_v585 : Ref sig .tc := ⟨.hbm, 694, rfl⟩
abbrev main_v586 : Ref sig .tc := ⟨.hbm, 695, rfl⟩
abbrev main_call29_cst : Ref sig .tc := ⟨.hbm, 696, rfl⟩
abbrev main_call29_v0 : Ref sig .tc := ⟨.hbm, 697, rfl⟩
abbrev main_v587 : Ref sig .tc := ⟨.hbm, 698, rfl⟩
abbrev main_c_38 : Ref sig .tc := ⟨.hbm, 699, rfl⟩
abbrev main_call30_v0 : Ref sig .tc := ⟨.hbm, 700, rfl⟩
abbrev main_v588 : Ref sig .tc := ⟨.hbm, 701, rfl⟩
abbrev main_v589 : Ref sig .tc := ⟨.hbm, 702, rfl⟩
abbrev main_v590 : Ref sig .tc := ⟨.hbm, 703, rfl⟩
abbrev main_v591 : Ref sig .tc := ⟨.hbm, 704, rfl⟩
abbrev main_v592 : Ref sig .tc := ⟨.hbm, 705, rfl⟩
abbrev main_v593 : Ref sig .tc := ⟨.hbm, 706, rfl⟩
abbrev main_cst_39 : Ref sig .tc := ⟨.hbm, 707, rfl⟩
abbrev main_v594 : Ref sig .tc := ⟨.hbm, 708, rfl⟩
abbrev main_v595 : Ref sig .tc := ⟨.hbm, 709, rfl⟩
abbrev main_v596 : Ref sig .tc := ⟨.hbm, 710, rfl⟩
abbrev main_v597 : Ref sig .tc := ⟨.hbm, 711, rfl⟩
abbrev main_v598 : Ref sig .tc := ⟨.hbm, 712, rfl⟩
abbrev main_v599 : Ref sig .tc := ⟨.hbm, 713, rfl⟩
abbrev main_v600 : Ref sig .tc := ⟨.hbm, 714, rfl⟩
abbrev main_v601 : Ref sig .tc := ⟨.hbm, 715, rfl⟩
abbrev main_v602 : Ref sig .tc := ⟨.hbm, 716, rfl⟩
abbrev main_v603 : Ref sig .tc := ⟨.hbm, 717, rfl⟩
abbrev main_v604 : Ref sig .tc := ⟨.hbm, 718, rfl⟩
abbrev main_v605 : Ref sig .tc := ⟨.hbm, 719, rfl⟩
abbrev main_v606 : Ref sig .tc := ⟨.hbm, 720, rfl⟩
abbrev main_v607 : Ref sig .tc := ⟨.hbm, 721, rfl⟩
abbrev main_v608 : Ref sig .tc := ⟨.hbm, 722, rfl⟩
abbrev main_v609 : Ref sig .tc := ⟨.hbm, 723, rfl⟩
abbrev main_v610 : Ref sig .tc := ⟨.hbm, 724, rfl⟩
abbrev main_v611 : Ref sig .tc := ⟨.hbm, 725, rfl⟩
abbrev main_v612 : Ref sig .tc := ⟨.hbm, 726, rfl⟩
abbrev main_v613 : Ref sig .tc := ⟨.hbm, 727, rfl⟩
abbrev main_v614 : Ref sig .tc := ⟨.hbm, 728, rfl⟩
abbrev main_v615 : Ref sig .tc := ⟨.hbm, 729, rfl⟩
abbrev main_v616 : Ref sig .tc := ⟨.hbm, 730, rfl⟩
abbrev main_v617 : Ref sig .tc := ⟨.hbm, 731, rfl⟩
abbrev main_v618 : Ref sig .tc := ⟨.hbm, 732, rfl⟩
abbrev main_v619 : Ref sig .tc := ⟨.hbm, 733, rfl⟩
abbrev main_v620 : Ref sig .tc := ⟨.hbm, 734, rfl⟩
abbrev main_v621 : Ref sig .tc := ⟨.hbm, 735, rfl⟩
abbrev main_v622 : Ref sig .tc := ⟨.hbm, 736, rfl⟩
abbrev main_v623 : Ref sig .tc := ⟨.hbm, 737, rfl⟩
abbrev main_v624 : Ref sig .tc := ⟨.hbm, 738, rfl⟩
abbrev main_v625 : Ref sig .tc := ⟨.hbm, 739, rfl⟩
abbrev main_v626 : Ref sig .tc := ⟨.hbm, 740, rfl⟩
abbrev main_v627 : Ref sig .tc := ⟨.hbm, 741, rfl⟩
abbrev main_v628 : Ref sig .tc := ⟨.hbm, 742, rfl⟩
abbrev main_v629 : Ref sig .tc := ⟨.hbm, 743, rfl⟩
abbrev main_v630 : Ref sig .tc := ⟨.hbm, 744, rfl⟩
abbrev main_v631 : Ref sig .tc := ⟨.hbm, 745, rfl⟩
abbrev main_v632 : Ref sig .tc := ⟨.hbm, 746, rfl⟩
abbrev main_v633 : Ref sig .tc := ⟨.hbm, 747, rfl⟩
abbrev main_v634 : Ref sig .tc := ⟨.hbm, 748, rfl⟩
abbrev main_v635 : Ref sig .tc := ⟨.hbm, 749, rfl⟩
abbrev main_v636 : Ref sig .tc := ⟨.hbm, 750, rfl⟩
abbrev main_v637 : Ref sig .tc := ⟨.hbm, 751, rfl⟩
abbrev main_v638 : Ref sig .tc := ⟨.hbm, 752, rfl⟩
abbrev main_v639 : Ref sig .tc := ⟨.hbm, 753, rfl⟩
abbrev main_v640 : Ref sig .tc := ⟨.hbm, 754, rfl⟩
abbrev main_v641 : Ref sig .tc := ⟨.hbm, 755, rfl⟩
abbrev main_v642 : Ref sig .tc := ⟨.hbm, 756, rfl⟩
abbrev main_v643 : Ref sig .tc := ⟨.hbm, 757, rfl⟩
abbrev main_v644 : Ref sig .tc := ⟨.hbm, 758, rfl⟩
abbrev main_v645 : Ref sig .tc := ⟨.hbm, 759, rfl⟩
abbrev main_v646 : Ref sig .tc := ⟨.hbm, 760, rfl⟩
abbrev main_call31_cst : Ref sig .tc := ⟨.hbm, 761, rfl⟩
abbrev main_call31_v0 : Ref sig .tc := ⟨.hbm, 762, rfl⟩
abbrev main_v647 : Ref sig .tc := ⟨.hbm, 763, rfl⟩
abbrev main_v648 : Ref sig .tc := ⟨.hbm, 764, rfl⟩
abbrev main_v649 : Ref sig .tc := ⟨.hbm, 765, rfl⟩
abbrev main_v650 : Ref sig .tc := ⟨.hbm, 766, rfl⟩
abbrev main_v651 : Ref sig .tc := ⟨.hbm, 767, rfl⟩
abbrev main_v652 : Ref sig .tc := ⟨.hbm, 768, rfl⟩
abbrev main_v653 : Ref sig .tc := ⟨.hbm, 769, rfl⟩
abbrev main_v654 : Ref sig .tc := ⟨.hbm, 770, rfl⟩
abbrev main_v655 : Ref sig .tc := ⟨.hbm, 771, rfl⟩
abbrev main_v656 : Ref sig .tc := ⟨.hbm, 772, rfl⟩

abbrev nD : Nat := 1
abbrev τ : Topo := Topo.v7x

variable {F : FTy → Type} [FloatOps F]
-- ==== Proof.KernelIdeal.Pool.lean ====
/- The pooling kernel: what one call of its body leaves in the output block, the call's triple, and the proof data
   of its pipeline at any contents `V` the region may be entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two halves of the output block -/

abbrev rX : Rect S1x64x16384 := Rect.unit (s := S1x64x16384) ![0, 0, 0] S1x64x16384.size inb_S1x64x16384_S1x64x16384_0_0_0
abbrev rS : Rect S1x1x16384 := Rect.unit (s := S1x1x16384) ![0, 0, 0] S1x1x16384.size inb_S1x1x16384_S1x1x16384_0_0_0
abbrev rW : Rect S64x20x64 := Rect.unit (s := S64x20x64) ![0, 0, 0] S64x20x64.size inb_S64x20x64_S64x20x64_0_0_0
abbrev rB : Rect S64x20 := Rect.unit (s := S64x20) ![0, 0] S64x20.size inb_S64x20_S64x20_0_0
abbrev rW0 : Rect S64x20x64 := Rect.unit (s := S64x20x64) ![0, 0, 0] S64x1x64.size inb_S64x20x64_S64x1x64_0_0_0
abbrev rB0 : Rect S64x20 := Rect.unit (s := S64x20) ![0, 0] S64x1.size inb_S64x20_S64x1_0_0
abbrev rOA : Rect S2x1x64x20 := Rect.unit (s := S2x1x64x20) ![0, 0, 0, 0] S1x1x64x20.size inb_S2x1x64x20_S1x1x64x20_0_0_0_0
abbrev rOB : Rect S2x1x64x20 := Rect.unit (s := S2x1x64x20) ![1, 0, 0, 0] S1x1x64x20.size inb_S2x1x64x20_S1x1x64x20_1_0_0_0

/-- The class vectors of the first image, from its features, its classes, the weights and the biases. -/
def vecA (x : Vec F S1x64x16384 .f32) (s : Vec F S1x1x16384 .i32) (w : Vec F S64x20x64 .f32) (b : Vec F S64x20 .f32) : Vec F S1x1x64x20 .f32 :=
  k0_pay7 (k0_pay4 (View.ld x rX) (View.ld s rS)) (k0_pay5 (View.ld x rX) (View.ld s rS))
    (k0_pay6 (View.ld x rX) (View.ld s rS) (View.ld w rW)) (View.ld b rB) (View.ld w rW0) (View.ld b rB0)

/-- The same of the second image, as the body's second half spells it. -/
def vecB (x : Vec F S1x64x16384 .f32) (s : Vec F S1x1x16384 .i32) (w : Vec F S64x20x64 .f32) (b : Vec F S64x20 .f32) : Vec F S1x1x64x20 .f32 :=
  k0_pay1 (k0_pay12 (k0_pay8 (View.ld x rX)) (k0_pay9 (F := F) (View.ld s rS)) (iota .tc S20x16384 32 [0] iota_S20x16384_d0_w32) 1#32)
    (k0_pay13 (k0_pay8 (View.ld x rX)) (k0_pay9 (F := F) (View.ld s rS)) (iota .tc S20x16384 32 [0] iota_S20x16384_d0_w32) 1#32)
    (k0_pay14 (k0_pay8 (View.ld x rX)) (k0_pay9 (F := F) (View.ld s rS)) (iota .tc S20x16384 32 [0] iota_S20x16384_d0_w32) 1#32 (View.ld w rW) (View.ld b rB))
    (View.ld w rW0) (View.ld b rB0)

/-- The output block after the body: the two images' class vectors, one above the other. -/
def poolOut (x0 x1 : Vec F S1x64x16384 .f32) (x2 x3 : Vec F S1x1x16384 .i32) (x4 : Vec F S64x20x64 .f32) (x5 : Vec F S64x20 .f32) : Vec F S2x1x64x20 .f32 :=
  View.canon [⟨rOB, vecB x1 x3 x4 x5⟩, ⟨rOA, vecA x0 x2 x4 x5⟩]

/-- The two stores cover the block. -/
theorem poolCover (p0 p1 : Vec F S1x1x64x20 .f32) (y : S2x1x64x20.Idx) :
    ∃ pc ∈ ([⟨rOB, p0⟩, ⟨rOA, p1⟩] : List (View.Piece (Elt F) S2x1x64x20 .f32)), y ∈ pc.1.set :=
  View.cover_of_tiled [⟨rOB, p0⟩, ⟨rOA, p1⟩] S1x1x64x20.size (by rfl) y

/-! ## The body's triple -/

set_option maxHeartbeats 1000000 in
/-- The body on whole blocks, the inputs at `x0` … `x5` and the output at anything, ends with the inputs as they were
    and the output at `poolOut`. -/
theorem pool_triple (c : Dev nD) (E : Set ℕ) (i : grid0.Coords) (arg1 : Memref sig .tc .vmem S1x64x16384 .f32) (harg1 : arg1.IsWhole)
    (arg2 : Memref sig .tc .vmem S1x64x16384 .f32) (harg2 : arg2.IsWhole) (arg3 : Memref sig .tc .vmem S1x1x16384 .i32) (harg3 : arg3.IsWhole)
    (arg4 : Memref sig .tc .vmem S1x1x16384 .i32) (harg4 : arg4.IsWhole) (arg5 : Memref sig .tc .vmem S64x20x64 .f32) (harg5 : arg5.IsWhole)
    (arg6 : Memref sig .tc .vmem S64x20 .f32) (harg6 : arg6.IsWhole) (arg7 : Memref sig .tc .vmem S2x1x64x20 .f32) (harg7 : arg7.IsWhole)
    (x0 x1 : Vec F S1x64x16384 .f32) (x2 x3 : Vec F S1x1x16384 .i32) (x4 : Vec F S64x20x64 .f32) (x5 : Vec F S64x20 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (poolOut x0 x1 x2 x3 x4 x5)) -∗ K ⟨⟩))
      ⊢ wp frame (wpE (defs₀ (F := F)) Variants.none c none) E (cc0__pool_body i arg1 harg1 arg2 harg2 arg3 harg3 arg4 harg4 arg5 harg5 arg6 harg6 arg7 harg7) K := by
  simp only [cc0__pool_body_eq_skeleton]; unfold cc0__pool_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (poolCover _ _)).trans ?_
  rfl

/-! ## The windows' blocks -/

variable (V : (c : Dev nD) → (b : Ref sig .tc) → Buf (Elt F) ((c : Thread nD τ).loc b))

/-- Window `w`'s block at point `t`, read off its array at `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays at `V`; after a point each input's buffer at its block and the output's at `poolOut` of
    the blocks; between points the other scoped buffers at anything and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => poolOut (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A0_eq (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = poolOut (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]) t d).trans
    (by unfold Dat.fetched Dat.blockOf iblk0; rw [A0_eq]; rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]) t d).trans
    (by unfold Dat.fetched Dat.blockOf iblk0; rw [A0_eq]; rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]) t d).trans
    (by unfold Dat.fetched Dat.blockOf iblk0; rw [A0_eq]; rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0_eq]) t d).trans
    (by unfold Dat.fetched Dat.blockOf iblk0; rw [A0_eq]; rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A0_eq]) t d).trans
    (by unfold Dat.fetched Dat.blockOf iblk0; rw [A0_eq]; rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A0_eq]) t d).trans
    (by unfold Dat.fetched Dat.blockOf iblk0; rw [A0_eq]; rfl)

/-! ## The body obligation -/

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (pool_triple c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row0 (t : Fin cfg0.N) : defs₀ (F := F) .tc cfg0.body (cfg0.bodyArgs t (cfg0.slots t)) = bodyAt0 t := by
  unfold defs₀; rw [Defs.onTc_tc]

/-- The pipeline library's body obligation, at every point. -/
theorem obligation0 (c : Dev nD) : BodyObligation (dat0 V c) (defs₀ (F := F)) Variants.none () Set.univ := fun t => by
  rw [bigSep_W0, bigSep_W0, row0]
  exact triple_restated (sound0 V c t) rfl .rfl fun _ => .rfl

end Cert.KernelIdeal.Own

end
-- ==== Proof.KernelIdeal.ConvRun.lean ====
/- The convolution kernel: its body's two branch conditions in closed form, the padded scratch, what a call leaves in
   the output block as a function of the scratch, and the call's triple in each of the three ways the branches go. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Writes
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The scratch is cleared: the grid's first point. -/
abbrev isFirst (i : grid1.Coords) : Prop :=
  Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32 = 1#1
/-- The scratch's interior is filled anew: the first row block of an image. -/
abbrev isFill (i : grid1.Coords) : Prop :=
  Scalar.cmpi .ne (Scalar.extui (Scalar.cmpi .eq (BitVec.ofNat 32 (i 2).val) 0#32)) 0#32 = 1#1

theorem isFirst_iff : ∀ t : Fin grid1.N, isFirst (grid1.coords t) ↔ t.val = 0 := fun t => by
  have ht : t.val < 64 := Nat.lt_of_lt_of_eq t.isLt N_1
  have e0 : (grid1.coords t 0).val = t.val / 16 % 4 := Pipeline.Grid.coords_val t 0 (by decide) rfl
  have e1 : (grid1.coords t 1).val = t.val / 4 % 4 := Pipeline.Grid.coords_val t 1 (by decide) rfl
  have e2 : (grid1.coords t 2).val = t.val / 1 % 4 := Pipeline.Grid.coords_val t 2 (by decide) rfl
  rw [show t.val = 0 ↔ t.val % 64 = 0 by omega]
  simp only [isFirst, e0, e1, e2]
  word_cmp

theorem isFill_iff : ∀ t : Fin grid1.N, isFill (grid1.coords t) ↔ t.val % 4 = 0 := fun t => by
  have ht : t.val < 64 := Nat.lt_of_lt_of_eq t.isLt N_1
  have e2 : (grid1.coords t 2).val = t.val / 1 % 4 := Pipeline.Grid.coords_val t 2 (by decide) rfl
  simp only [isFill, e2]
  word_cmp

/-! ## The scratch and the output block -/

abbrev rAll : Rect S130x130x64 := Rect.unit (s := S130x130x64) ![0, 0, 0] S130x130x64.size inb_S130x130x64_S130x130x64_0_0_0
abbrev rInt : Rect S130x130x64 := Rect.unit (s := S130x130x64) ![1, 1, 0] S128x128x64.size inb_S130x130x64_S128x128x64_1_1_0
abbrev rV : Rect S1x1x64x20 := Rect.unit (s := S1x1x64x20) ![0, 0, 0, 0] S1x1x64x20.size inb_S1x1x64x20_S1x1x64x20_0_0_0_0
abbrev rSeg : Rect S1x1x16384 := Rect.unit (s := S1x1x16384) ![0, 0, 0] S1x1x16384.size inb_S1x1x16384_S1x1x16384_0_0_0
abbrev rL (i : grid1.Coords) (r : Fin 3) : Rect S130x130x64 := Rect.unit (s := S130x130x64) (k1_off1 i (BitVec.ofNat 32 r.val)) S32x128x64.size (k1_off1_inb i r)
abbrev rC (i : grid1.Coords) (r : Fin 3) : Rect S130x130x64 := Rect.unit (s := S130x130x64) (k1_off2 i (BitVec.ofNat 32 r.val)) S32x128x64.size (k1_off2_inb i r)
abbrev rR (i : grid1.Coords) (r : Fin 3) : Rect S130x130x64 := Rect.unit (s := S130x130x64) (k1_off3 i (BitVec.ofNat 32 r.val)) S32x128x64.size (k1_off3_inb i r)
abbrev rT0 : Rect S9x64x128 := Rect.unit (s := S9x64x128) ![0, 0, 0] S1x64x128.size inb_S9x64x128_S1x64x128_0_0_0
abbrev rT1 : Rect S9x64x128 := Rect.unit (s := S9x64x128) ![1, 0, 0] S1x64x128.size inb_S9x64x128_S1x64x128_1_0_0
abbrev rT2 : Rect S9x64x128 := Rect.unit (s := S9x64x128) ![2, 0, 0] S1x64x128.size inb_S9x64x128_S1x64x128_2_0_0
abbrev rT3 : Rect S9x64x128 := Rect.unit (s := S9x64x128) ![3, 0, 0] S1x64x128.size inb_S9x64x128_S1x64x128_3_0_0
abbrev rT4 : Rect S9x64x128 := Rect.unit (s := S9x64x128) ![4, 0, 0] S1x64x128.size inb_S9x64x128_S1x64x128_4_0_0
abbrev rT5 : Rect S9x64x128 := Rect.unit (s := S9x64x128) ![5, 0, 0] S1x64x128.size inb_S9x64x128_S1x64x128_5_0_0
abbrev rT6 : Rect S9x64x128 := Rect.unit (s := S9x64x128) ![6, 0, 0] S1x64x128.size inb_S9x64x128_S1x64x128_6_0_0
abbrev rT7 : Rect S9x64x128 := Rect.unit (s := S9x64x128) ![7, 0, 0] S1x64x128.size inb_S9x64x128_S1x64x128_7_0_0
abbrev rT8 : Rect S9x64x128 := Rect.unit (s := S9x64x128) ![8, 0, 0] S1x64x128.size inb_S9x64x128_S1x64x128_8_0_0
abbrev rBias : Rect S1x128 := Rect.unit (s := S1x128) ![0, 0] S1x128.size inb_S1x128_S1x128_0_0
abbrev rO0 : Rect S2x1x1x64x32x128 := Rect.unit (s := S2x1x1x64x32x128) ![0, 0, 0, 0, 0, 0] S1x1x1x64x32x128.size inb_S2x1x1x64x32x128_S1x1x1x64x32x128_0_0_0_0_0_0
abbrev rO1 : Rect S2x1x1x64x32x128 := Rect.unit (s := S2x1x1x64x32x128) ![1, 0, 0, 0, 0, 0] S1x1x1x64x32x128.size inb_S2x1x1x64x32x128_S1x1x1x64x32x128_1_0_0_0_0_0

/-- The interior: the class vectors spread over the pixels of the target map. -/
def spread (i : grid1.Coords) (x0 x1 : Vec F S1x1x16384 .i32) (x2 : Vec F S1x1x64x20 .f32) : FVec F S128x128x64 .f32 :=
  k1_pay5 i (View.ld x0 rSeg) (View.ld x1 rSeg) (View.ld x2 rV)

/-- The scratch with interior `g`: zero on the border. -/
def padded (g : FVec F S128x128x64 .f32) : Vec F S130x130x64 .f32 :=
  View.canon [⟨rInt, g⟩, ⟨rAll, k1_pay4⟩]

theorem paddedCover (p : Vec F S128x128x64 .f32) (q : Vec F S130x130x64 .f32) (y : S130x130x64.Idx) :
    ∃ pc ∈ ([⟨rInt, p⟩, ⟨rAll, q⟩] : List (View.Piece (Elt F) S130x130x64 .f32)), y ∈ pc.1.set :=
  ⟨⟨rAll, q⟩, List.mem_cons_of_mem _ List.mem_cons_self, View.mem_set_unit_zero (by funext a; fin_cases a <;> rfl) inb_S130x130x64_S130x130x64_0_0_0 y⟩

/-- The nine taps' sum and the bias, before the rectifier. -/
def taps (i : grid1.Coords) (w : Vec F S9x64x128 .f32) (b : Vec F S1x128 .f32) (xs : Vec F S130x130x64 .f32) : FVec F S4096x128 .f32 :=
  k1_pay10
    (k1_pay7 (k1_pay6 (View.ld xs (rL i 0)) (View.ld w rT0) (View.ld xs (rC i 0)) (View.ld w rT1))
      (View.ld xs (rR i 0)) (View.ld w rT2) (View.ld xs (rL i 1)) (View.ld w rT3) (View.ld xs (rC i 1)) (View.ld w rT4))
    (k1_pay8 (View.ld xs (rR i 1))) (k1_pay9 (View.ld w rT5)) (constant S4096x128 .f32 0x00000000#32)
    (View.ld xs (rL i 2)) (View.ld w rT6) (View.ld xs (rC i 2)) (View.ld w rT7) (View.ld xs (rR i 2)) (View.ld w rT8) (View.ld b rBias)

/-- The output block after a call, from the scratch as the taps read it. -/
def convOut (i : grid1.Coords) (w : Vec F S9x64x128 .f32) (b : Vec F S1x128 .f32) (xs : Vec F S130x130x64 .f32) : Vec F S2x1x1x64x32x128 .f32 :=
  View.canon [⟨rO1, k1_pay3 (taps i w b xs) (Scalar.ofBits .f32 0x00000000#32)⟩, ⟨rO0, k1_pay2 (taps i w b xs) (Scalar.ofBits .f32 0x00000000#32)⟩]

theorem convCover (p q : Vec F S1x1x1x64x32x128 .f32) (y : S2x1x1x64x32x128.Idx) :
    ∃ pc ∈ ([⟨rO1, p⟩, ⟨rO0, q⟩] : List (View.Piece (Elt F) S2x1x1x64x32x128 .f32)), y ∈ pc.1.set :=
  View.cover_of_tiled [⟨rO1, p⟩, ⟨rO0, q⟩] S1x1x1x64x32x128.size (by rfl) y

/-- A load from a buffer is the read contents through the rectangle. -/
theorem readAt_ld {κ : Kind} {sp : Space} {s : Shape} {e : EltTy} (v : View sig κ sp s e) (r : Rect s) (f : v.ty.Contents (Elt F)) :
    v.readAt (Elt F) r.toLoadRect f = View.ld (v.read (Elt F) f) r := rfl

/-- Overwriting the last write's rectangle leaves the writes as if the new one had been made in its place. -/
theorem overwrite {κ : Kind} {sp : Space} {S : Shape} {e : EltTy} (v : View sig κ sp S e) (f : v.ty.Contents (Elt F)) (r : Rect S)
    (w w' : r.shape.Idx → Elt F e) (L : List (View.Piece (Elt F) S e)) (hf : v.read (Elt F) f = View.canon (⟨r, w'⟩ :: L)) :
    v.read (Elt F) (v.writes (Elt F) f [⟨r, w⟩]) = View.canon (⟨r, w⟩ :: L) := by
  funext y
  by_cases hy : y ∈ r.set
  · obtain ⟨x, rfl⟩ : ∃ x, r.emb x = y := r.exists_idx_of_mem hy
    rw [View.read_writes_cons_emb, View.canon_cons_emb]
  · rw [View.read_writes_cons_miss v f _ _ y hy, View.writes_nil, hf, View.canon_cons_of_not_mem _ _ hy,
      View.canon_cons_of_not_mem _ _ hy]

/-- Filling the interior of a padded scratch pads the new interior. -/
theorem refill {κ : Kind} {sp : Space} (v : View sig κ sp S130x130x64 .f32) (f : v.ty.Contents (Elt F)) (g g' : FVec F S128x128x64 .f32)
    (hf : v.read (Elt F) f = padded g') : v.read (Elt F) (v.writes (Elt F) f [⟨rInt, g⟩]) = padded g :=
  overwrite v f rInt g g' _ hf

/-! ## The body's triple -/

set_option maxHeartbeats 1000000 in
/-- A point that keeps the scratch: it is read at `xs` and handed back. -/
theorem conv_keep (c : Dev nD) (E : Set ℕ) (i : grid1.Coords) (arg3 : Memref sig .tc .vmem S1x1x16384 .i32) (harg3 : arg3.IsWhole)
    (arg4 : Memref sig .tc .vmem S1x1x16384 .i32) (harg4 : arg4.IsWhole) (arg5 : Memref sig .tc .vmem S1x1x64x20 .f32) (harg5 : arg5.IsWhole)
    (arg6 : Memref sig .tc .vmem S9x64x128 .f32) (harg6 : arg6.IsWhole) (arg7 : Memref sig .tc .vmem S1x128 .f32) (harg7 : arg7.IsWhole)
    (arg8 : Memref sig .tc .vmem S2x1x1x64x32x128 .f32) (harg8 : arg8.IsWhole) (arg9 : Memref sig .tc .vmem S130x130x64 .f32) (harg9 : arg9.IsWhole)
    (hc0 : ¬ isFirst i) (hc1 : ¬ isFill i)
    (x0 x1 : Vec F S1x1x16384 .i32) (x2 : Vec F S1x1x64x20 .f32) (x3 : Vec F S9x64x128 .f32) (x4 : Vec F S1x128 .f32) (xs : Vec F S130x130x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ owns (c : Thread nD τ) arg9 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare (convOut i x3 x4 xs) ∗ owns (c : Thread nD τ) arg9 fullShare xs) -∗ K ⟨⟩))
      ⊢ wp frame (wpE (defs₀ (F := F)) Variants.none c none) E (cc1__conv_body i arg3 harg3 arg4 harg4 arg5 harg5 arg6 harg6 arg7 harg7 arg8 harg8 arg9 harg9) K := by
  simp only [cc1__conv_body_eq_skeleton]; unfold cc1__conv_body_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0 hf1 hf2 hf3 hf4
  subst hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (convCover _ _)).trans ?_
    unfold conv_keep.sl.r_4 conv_keep.sl.r_3 conv_keep.sl.r_2 conv_keep.sl.r_1 conv_keep.sl.r conv_keep.sl.cst_66 conv_keep.sl.cst_43 convOut taps
    simp only [readAt_ld]
    rfl
  iexists _; isplitr
  swap; · iexact HS
  ipureintro
  rfl

set_option maxHeartbeats 1000000 in
/-- A point that fills the interior over a scratch padded already. -/
theorem conv_fill (c : Dev nD) (E : Set ℕ) (i : grid1.Coords) (arg3 : Memref sig .tc .vmem S1x1x16384 .i32) (harg3 : arg3.IsWhole)
    (arg4 : Memref sig .tc .vmem S1x1x16384 .i32) (harg4 : arg4.IsWhole) (arg5 : Memref sig .tc .vmem S1x1x64x20 .f32) (harg5 : arg5.IsWhole)
    (arg6 : Memref sig .tc .vmem S9x64x128 .f32) (harg6 : arg6.IsWhole) (arg7 : Memref sig .tc .vmem S1x128 .f32) (harg7 : arg7.IsWhole)
    (arg8 : Memref sig .tc .vmem S2x1x1x64x32x128 .f32) (harg8 : arg8.IsWhole) (arg9 : Memref sig .tc .vmem S130x130x64 .f32) (harg9 : arg9.IsWhole)
    (hc0 : ¬ isFirst i) (hc1 : isFill i)
    (x0 x1 : Vec F S1x1x16384 .i32) (x2 : Vec F S1x1x64x20 .f32) (x3 : Vec F S9x64x128 .f32) (x4 : Vec F S1x128 .f32) (g : FVec F S128x128x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ owns (c : Thread nD τ) arg9 fullShare (padded g)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare (convOut i x3 x4 (padded (spread i x0 x1 x2))) ∗ owns (c : Thread nD τ) arg9 fullShare (padded (spread i x0 x1 x2))) -∗ K ⟨⟩))
      ⊢ wp frame (wpE (defs₀ (F := F)) Variants.none c none) E (cc1__conv_body i arg3 harg3 arg4 harg4 arg5 harg5 arg6 harg6 arg7 harg7 arg8 harg8 arg9 harg9) K := by
  simp only [cc1__conv_body_eq_skeleton]; unfold cc1__conv_body_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (convCover _ _)).trans ?_
    unfold conv_fill.sl.r_4 conv_fill.sl.r_3 conv_fill.sl.r_2 conv_fill.sl.r_1 conv_fill.sl.r conv_fill.sl.cst_66 conv_fill.sl.cst_43 conv_fill.sl.HS_1 convOut taps
    rw [← refill arg9.view fs (spread i (arg3.view.read (Elt F) f0) (arg4.view.read (Elt F) f1) (arg5.view.read (Elt F) f2)) g hfs]
    simp only [readAt_ld]
    rfl
  iexists _; isplitr
  swap; · iexact HS
  ipureintro
  exact refill _ _ _ g hfs

set_option maxHeartbeats 1000000 in
/-- The first point: the scratch is cleared and its interior filled. -/
theorem conv_first (c : Dev nD) (E : Set ℕ) (i : grid1.Coords) (arg3 : Memref sig .tc .vmem S1x1x16384 .i32) (harg3 : arg3.IsWhole)
    (arg4 : Memref sig .tc .vmem S1x1x16384 .i32) (harg4 : arg4.IsWhole) (arg5 : Memref sig .tc .vmem S1x1x64x20 .f32) (harg5 : arg5.IsWhole)
    (arg6 : Memref sig .tc .vmem S9x64x128 .f32) (harg6 : arg6.IsWhole) (arg7 : Memref sig .tc .vmem S1x128 .f32) (harg7 : arg7.IsWhole)
    (arg8 : Memref sig .tc .vmem S2x1x1x64x32x128 .f32) (harg8 : arg8.IsWhole) (arg9 : Memref sig .tc .vmem S130x130x64 .f32) (harg9 : arg9.IsWhole)
    (hc0 : isFirst i) (hc1 : isFill i)
    (x0 x1 : Vec F S1x1x16384 .i32) (x2 : Vec F S1x1x64x20 .f32) (x3 : Vec F S9x64x128 .f32) (x4 : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare (convOut i x3 x4 (padded (spread i x0 x1 x2))) ∗ owns (c : Thread nD τ) arg9 fullShare (padded (spread i x0 x1 x2))) -∗ K ⟨⟩))
      ⊢ wp frame (wpE (defs₀ (F := F)) Variants.none c none) E (cc1__conv_body i arg3 harg3 arg4 harg4 arg5 harg5 arg6 harg6 arg7 harg7 arg8 harg8 arg9 harg9) K := by
  simp only [cc1__conv_body_eq_skeleton]; unfold cc1__conv_body_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (convCover _ _)).trans ?_
    unfold conv_first.sl.r_4 conv_first.sl.r_3 conv_first.sl.r_2 conv_first.sl.r_1 conv_first.sl.r conv_first.sl.cst_66 conv_first.sl.cst_43 conv_first.sl.v84 conv_first.sl.v75 conv_first.sl.v66 conv_first.sl.v57 conv_first.sl.v48 conv_first.sl.v39 conv_first.sl.v30 conv_first.sl.v21 conv_first.sl.v13
    rw [show padded (spread i (arg3.view.read (Elt F) f0) (arg4.view.read (Elt F) f1) (arg5.view.read (Elt F) f2))
        = View.canon (conv_first.sl.HS_2 c i arg3 arg4 arg5 f0 f1 f2) from rfl]
    unfold convOut taps
    simp only [readAt_ld, View.read_writes_junk_eq_canon]
    rfl
  iexists _; isplitr
  swap; · iexact HS
  ipureintro
  exact View.read_writes_eq_canon _ _ _ (paddedCover _ _)

end Cert.KernelIdeal.Own

end
-- ==== Proof.KernelIdeal.Conv.lean ====
/- The convolution pipeline's proof data at any contents `V` its region may be entered with, and its body obligation.
   Between points the scratch holds the padded class-vector map of the image under way. -/
module

public import proofs.«01_k».proof.Proof.KernelIdeal.ConvRun

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first row block of the image point `t` works on. -/
def base (t : Fin cfg1.N) : Fin cfg1.N := ⟨t.val / 4 * 4, Nat.lt_of_le_of_lt (Nat.div_mul_le_self _ _) t.isLt⟩

theorem base_of_mod (t : Fin cfg1.N) (h : t.val % 4 = 0) : base t = t := Fin.ext (by show t.val / 4 * 4 = t.val; omega)

/-- The scratch's interior while point `t`'s image is under way. -/
def inner (c : Dev nD) (t : Fin cfg1.N) : FVec F S128x128x64 .f32 :=
  spread (grid1.coords (base t)) (iblk1 V c 0 (base t)) (iblk1 V c 1 (base t)) (iblk1 V c 2 (base t))

theorem inner_pred (c : Dev nD) (t s : Fin cfg1.N) (h : t.val % 4 ≠ 0) (hs : s.val = t.val - 1) : inner V c s = inner V c t := by
  unfold inner
  rw [show base s = base t from Fin.ext (by show s.val / 4 * 4 = t.val / 4 * 4; omega)]

theorem inner_of_mod (c : Dev nD) (t : Fin cfg1.N) (h : t.val % 4 = 0) :
    inner V c t = spread (grid1.coords t) (iblk1 V c 0 t) (iblk1 V c 1 t) (iblk1 V c 2 t) := by
  unfold inner; rw [base_of_mod t h]

/-! ## The invariant -/

abbrev scr : Memref sig .tc .vmem S130x130x64 .f32 := Memref.whole cc1_scratch0

/-- The scoped buffers this region neither stages nor uses. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- Between points: before the first the scratch at anything, later at the padded interior of the point before. -/
def Phi1 (c : Dev nD) : (n : ℕ) → n ≤ cfg1.N → sProp 𝕄
  | 0, _ => Pipeline.ΦA spec1 c
  | n + 1, hn => iprop(others (F := F) c ∗ owns (c : Thread nD τ) scr fullShare (padded (inner V c ⟨n, hn⟩)) ∗ (∃ r, prngReg c r))

theorem PhiA_open (c : Dev nD) : (Pipeline.ΦA spec1 c : sProp 𝕄)
    ⊢ iprop(others (F := F) c ∗ (∃ d, owns (c : Thread nD τ) scr fullShare d) ∗ (∃ r, prngReg c r)) := by
  unfold Pipeline.ΦA others; rw [scopedRest1_eq]
  simp only [scr, owns_whole]
  iintro ⟨⟨R0, R1, R2, R3, R4, R5, R6, R7, R8, R9, R10, R11, HS⟩, Hg⟩
  isplitl [R0 R1 R2 R3 R4 R5 R6 R7 R8 R9 R10 R11]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  isplitl [HS]; · iexact HS
  iexact Hg

theorem PhiA_close (c : Dev nD) : iprop(others (F := F) c ∗ (∃ d, owns (c : Thread nD τ) scr fullShare d) ∗ (∃ r, prngReg c r))
    ⊢ (Pipeline.ΦA spec1 c : sProp 𝕄) := by
  unfold Pipeline.ΦA others; rw [scopedRest1_eq]
  simp only [scr, owns_whole]
  iintro ⟨⟨R0, R1, R2, R3, R4, R5, R6, R7, R8, R9, R10, R11⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => convOut (grid1.coords t) (iblk1 V c 3 t) (iblk1 V c 4 t) (padded (inner V c t))
  Φ t := Phi1 V c t.val (Nat.le_of_lt_succ t.isLt)
  q _ := fullShare
  owed _ := 0

theorem A1_eq (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val (Nat.le_of_lt t.isLt) := by
  dsimp only [dat1]; exact Pipeline.Dat.Φ_castSucc (Phi1 V c) t

theorem Phi1_succ (c : Dev nD) (t : Fin cfg1.N) : (dat1 V c).Φ t.succ
    = iprop(others (F := F) c ∗ owns (c : Thread nD τ) scr fullShare (padded (inner V c t)) ∗ (∃ r, prngReg c r)) := rfl

/-- Before a point that is not the first: the scratch is padded. -/
theorem Phi1_pos (c : Dev nD) (n : ℕ) (h : n ≤ cfg1.N) (hz : n ≠ 0) : Phi1 V c n h
    = iprop(others (F := F) c ∗ owns (c : Thread nD τ) scr fullShare (padded (inner V c ⟨n - 1, by omega⟩)) ∗ (∃ r, prngReg c r)) := by
  cases n with
  | zero => exact absurd rfl hz
  | succ n => rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = convOut (grid1.coords t) (iblk1 V c 3 t) (iblk1 V c 4 t) (padded (inner V c t)) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]) t d).trans
    (by unfold Dat.fetched Dat.blockOf iblk1; rw [A1_eq]; rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]) t d).trans
    (by unfold Dat.fetched Dat.blockOf iblk1; rw [A1_eq]; rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]) t d).trans
    (by unfold Dat.fetched Dat.blockOf iblk1; rw [A1_eq]; rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]) t d).trans
    (by unfold Dat.fetched Dat.blockOf iblk1; rw [A1_eq]; rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1_eq]) t d).trans
    (by unfold Dat.fetched Dat.blockOf iblk1; rw [A1_eq]; rfl)

/-! ## The body obligation -/

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4]
  rw [Phi1_succ, Phi1_castSucc,
    show (dat1 V c).owesAt () t.succ = (dat1 V c).owesAt () t.castSucc from rfl,
    after1_0, after1_1, after1_2, after1_3, after1_4, after1_5]
  have hN : t.val < 64 := lt_of_lt_of_eq t.isLt (show cfg1.N = 64 from N_1)
  by_cases hz : t.val = 0
  · have h4 : t.val % 4 = 0 := by omega
    rw [inner_of_mod V c t h4]
    have hP : Phi1 V c t.val (Nat.le_of_lt t.isLt) ⊢ iprop(others (F := F) c ∗ (∃ d, owns (c : Thread nD τ) scr fullShare d) ∗ (∃ r, prngReg c r)) := by
      have : ∀ (n : ℕ) (h : n ≤ cfg1.N), n = 0 → Phi1 V c n h = Pipeline.ΦA spec1 c := fun n h e => by subst e; rfl
      rw [this _ _ hz]; exact PhiA_open c
    iintro ⟨HΦ, Ho, ⟨%d0, H0⟩, ⟨%d1, H1⟩, ⟨%d2, H2⟩, ⟨%d3, H3⟩, ⟨%d4, H4⟩, ⟨%d5, H5⟩⟩
    ihave HΦ' := hP $$ HΦ
    icases HΦ' with ⟨HR, HS, Hg⟩
    iapply (conv_first c Set.univ (grid1.coords t) _ _ _ _ _ _ _ _ _ _ _ _ scr (Memref.isWhole_whole _) ((isFirst_iff t).mpr hz) ((isFill_iff t).mpr h4) (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi1_pos V c t.val _ hz]
    by_cases h4 : t.val % 4 = 0
    · rw [inner_of_mod V c t h4]
      iintro ⟨⟨HR, HS, Hg⟩, Ho, ⟨%d0, H0⟩, ⟨%d1, H1⟩, ⟨%d2, H2⟩, ⟨%d3, H3⟩, ⟨%d4, H4⟩, ⟨%d5, H5⟩⟩
      iapply (conv_fill c Set.univ (grid1.coords t) _ _ _ _ _ _ _ _ _ _ _ _ scr (Memref.isWhole_whole _) (fun h => hz ((isFirst_iff t).mp h)) ((isFill_iff t).mpr h4) (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [inner_pred V c t ⟨t.val - 1, _⟩ h4 rfl]
      iintro ⟨⟨HR, HS, Hg⟩, Ho, ⟨%d0, H0⟩, ⟨%d1, H1⟩, ⟨%d2, H2⟩, ⟨%d3, H3⟩, ⟨%d4, H4⟩, ⟨%d5, H5⟩⟩
      iapply (conv_keep c Set.univ (grid1.coords t) _ _ _ _ _ _ _ _ _ _ _ _ scr (Memref.isWhole_whole _) (fun h => hz ((isFirst_iff t).mp h)) (fun h => h4 ((isFill_iff t).mp h)) (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 V c) (defs₀ (F := F)) Variants.none () Set.univ := fun t => by
  rw [bigSep_W1, bigSep_W1, row1]
  exact triple_restated (sound1 V c t) rfl .rfl fun _ => .rfl

end Cert.KernelIdeal.Own

end
-- ==== Proof.KernelIdeal.Run.lean ====
/- The two pipelines as segments of the program, and the program's run: it ends with every buffer outside the kernels'
   private memory at the last valuation and with every counter at zero. -/
module

public import proofs.«01_k».proof.Proof.KernelIdeal.Pool
public import proofs.«01_k».proof.Proof.KernelIdeal.Conv
public import proofs.«01_k».proof.Proof.Gen.KernelIdeal.Regions
public import Idealize.ShloMosaic.Lib.Pipeline.Frame
public import Idealize.ShloMosaic.Lib.Pipeline.Regions

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

/-! ## What the pipelines leave -/

variable (m : (ℓ : Loc nD τ sig) → Buf (Elt F) ℓ) (ρ : Dev nD → PrngReg)

/-- The buffers as the first pipeline finds them. -/
abbrev E0 (c : Dev nD) (b : Ref sig .tc) : Buf (Elt F) ((c : Thread nD τ).loc b) := V1 m c b

/-- The class vectors, as the first pipeline leaves them. -/
def vecs (c : Dev nD) : Buf (Elt F) ((c : Thread nD τ).loc main_v6) := (dat0 (E0 m) c).arrAt 6 cfg0.N

/-- The buffers as the second pipeline finds them. -/
def mid (c : Dev nD) : Valuation τ sig (Elt F) :=
  StableHlo.after hostOps1 (Function.update (V1 m c) main_v6 (vecs m c))

abbrev E1 (c : Dev nD) (b : Ref sig .tc) : Buf (Elt F) ((c : Thread nD τ).loc b) := mid m c b

/-- The filtered maps, as the second pipeline leaves them. -/
def maps (c : Dev nD) : Buf (Elt F) ((c : Thread nD τ).loc main_v12) := (dat1 (E1 m) c).arrAt 5 cfg1.N

/-- What each pipeline leaves in its result. -/
def outs : Outs (F := F) := fun _ r c =>
  if h : r = main_v6 then h ▸ vecs m c else if h : r = main_v12 then h ▸ maps m c else m ((c : Thread nD τ).loc r)

theorem outs_vecs (n : ℕ) (c : Dev nD) : outs m n main_v6 c = vecs m c := by simp [outs]

theorem outs_maps (n : ℕ) (c : Dev nD) : outs m n main_v12 c = maps m c := by
  unfold outs; rw [dif_neg (by decide), dif_pos rfl]

theorem V3_eq (c : Dev nD) : V3 m (outs m) c = mid m c := by
  unfold V3 V2 mid; rw [outs_vecs]

/-! ## The segments -/

abbrev pdats (p : Fin 2) (c : Dev nD) : Dat τ (Elt F) Unit ℕ (UR sig nD τ) ℕ (cfgs p) c :=
  match p with
  | ⟨0, _⟩ => dat0 (E0 m) c
  | ⟨1, _⟩ => dat1 (E1 m) c

abbrev L : GSem nD τ sig → Finset Unit := fun _ => ∅
abbrev lv : GSem nD τ sig → Unit → ℕ := fun _ _ => 0

/-- What a core carries beside the buffers: its generator register, and no debt. -/
abbrev rest (c : Dev nD) : sProp 𝕄 :=
  iprop((∃ r, prngReg c r) ∗ ∃ W, owes (c : Thread nD τ) (0 : CellTallies nD τ sig Unit) W)

abbrev afterPool (c : Dev nD) (b : Ref sig .tc) : Buf (Elt F) ((c : Thread nD τ).loc b) := V2 m (outs m) c b

theorem afterPool_out (c : Dev nD) : afterPool m c main_v6 = vecs m c := by
  unfold afterPool V2; rw [Function.update_self, outs_vecs]

theorem afterPool_ne (c : Dev nD) (b : Ref sig .tc) (h : b ≠ main_v6) : afterPool m c b = E0 m c b := by
  exact V2_of m (outs m) c b (by simpa using h)

set_option backward.isDefEq.respectTransparency.types false in
/-- The pooling pipeline, entered with every buffer as `E0` says and left with its result replaced. -/
def poolSeg : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ L lv 0 fun _ _ => rfl
  pre c := iprop(unscopedBufs c (E0 m c) ∗ rest c)
  post c := iprop(unscopedBufs c (afterPool m c) ∗ rest c)
  X c := iprop(∃ r, prngReg c r)
  Y c := iprop(∃ r, prngReg c r)
  Z c := iprop(Pipeline.unscopedRest (Ix := Unit) (Name := ℕ) (U := UR sig nD τ) (Lvl := ℕ) spec0 c (E0 m c))
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg] <;> iassumption
  hin c := by
    rw [show (pdats m 0 c).Φ 0 = Pipeline.ΦA spec0 c from rfl]
    unfold Pipeline.ΦA
    iintro ⟨Hg, -, Hr⟩
    isplitl [Hr]; · iexact Hr
    iexact Hg
  hout c := by
    rw [Pipeline.ownSems0_none]
    rw [show (pdats m 0 c).Φ (Fin.last _) = Pipeline.ΦA spec0 c from rfl]
    unfold Pipeline.ΦA
    iintro ⟨Hr, Hg⟩
    isplitl [Hg]; · iexact Hg
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (E0 m c) (afterPool m c) ((pdats m 0 c).arrAt · cfg0.N)
      (fun w => by
        fin_cases w
        · exact ((pdats m 0 c).arrAt_in 0 rfl _).trans (afterPool_ne m c main_v0 (by decide)).symm
        · exact ((pdats m 0 c).arrAt_in 1 rfl _).trans (afterPool_ne m c main_v1 (by decide)).symm
        · exact ((pdats m 0 c).arrAt_in 2 rfl _).trans (afterPool_ne m c main_v2 (by decide)).symm
        · exact ((pdats m 0 c).arrAt_in 3 rfl _).trans (afterPool_ne m c main_v3 (by decide)).symm
        · exact ((pdats m 0 c).arrAt_in 4 rfl _).trans (afterPool_ne m c main_v4 (by decide)).symm
        · exact ((pdats m 0 c).arrAt_in 5 rfl _).trans (afterPool_ne m c main_v5 (by decide)).symm
        · exact (afterPool_out m c).symm)
      (fun b hb => afterPool_ne m c b fun h => hb (h ▸ Finset.mem_image.mpr ⟨6, Finset.mem_univ _, rfl⟩))
    iintro ⟨Ha, HO, Hg, Hrest⟩
    imodintro
    isplitl [Ha Hrest]
    · iapply hjoin; isplitl [Ha] <;> iassumption
    isplitl [Hg]; · iexact Hg
    unfold Pipeline.Dat.owesAt Pipeline.owesWithin
    icases HO with ⟨%W, -, HO⟩; iexists W; iexact HO

/-- After the last point the scratch's contents are forgotten. -/
theorem last1 (V : (c : Dev nD) → (b : Ref sig .tc) → Buf (Elt F) ((c : Thread nD τ).loc b)) (c : Dev nD) :
    (dat1 V c).Φ (Fin.last _) ⊢ (Pipeline.ΦA spec1 c : sProp 𝕄) := by
  have hN : cfg1.N = 64 := N_1
  rw [show (dat1 V c).Φ (Fin.last _) = Phi1 V c cfg1.N le_rfl from rfl, Phi1_pos V c cfg1.N le_rfl (by omega)]
  refine BIBase.Entails.trans ?_ (PhiA_close c)
  iintro ⟨HR, HS, Hg⟩
  isplitl [HR]; · iexact HR
  isplitl [HS]; · iexists _; iexact HS
  iexact Hg

abbrev afterConv (c : Dev nD) (b : Ref sig .tc) : Buf (Elt F) ((c : Thread nD τ).loc b) := V4 m (outs m) c b

theorem afterConv_out (c : Dev nD) : afterConv m c main_v12 = maps m c := by
  unfold afterConv V4; rw [Function.update_self, outs_maps]

theorem afterConv_ne (c : Dev nD) (b : Ref sig .tc) (h : b ≠ main_v12) : afterConv m c b = E1 m c b := by
  refine (V4_of m (outs m) c b (by simpa using h)).trans ?_; rw [V3_eq]

set_option backward.isDefEq.respectTransparency.types false in
/-- The convolution pipeline, entered with every buffer as `E1` says and left with its result replaced. -/
def convSeg : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (obligation1 (E1 m) c).loose
  hwaits := Pipeline.hwaits_of_owed_zero _ _ _ _ L lv 1 fun _ _ => rfl
  pre c := iprop(unscopedBufs c (E1 m c) ∗ rest c)
  post c := iprop(unscopedBufs c (afterConv m c) ∗ rest c)
  X c := iprop(∃ r, prngReg c r)
  Y c := iprop(∃ r, prngReg c r)
  Z c := iprop(Pipeline.unscopedRest (Ix := Unit) (Name := ℕ) (U := UR sig nD τ) (Lvl := ℕ) spec1 c (E1 m c))
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg] <;> iassumption
  hin c := by
    rw [show (pdats m 1 c).Φ 0 = Pipeline.ΦA spec1 c from rfl]
    unfold Pipeline.ΦA
    iintro ⟨Hg, -, Hr⟩
    isplitl [Hr]; · iexact Hr
    iexact Hg
  hout c := by
    rw [Pipeline.ownSems0_none]
    refine BIBase.Entails.trans (last1 (E1 m) c) ?_
    unfold Pipeline.ΦA
    iintro ⟨Hr, Hg⟩
    isplitl [Hg]; · iexact Hg
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (E1 m c) (afterConv m c) ((pdats m 1 c).arrAt · cfg1.N)
      (fun w => by
        fin_cases w
        · exact ((pdats m 1 c).arrAt_in 0 rfl _).trans (afterConv_ne m c main_v2 (by decide)).symm
        · exact ((pdats m 1 c).arrAt_in 1 rfl _).trans (afterConv_ne m c main_v3 (by decide)).symm
        · exact ((pdats m 1 c).arrAt_in 2 rfl _).trans (afterConv_ne m c main_v6 (by decide)).symm
        · exact ((pdats m 1 c).arrAt_in 3 rfl _).trans (afterConv_ne m c main_v9 (by decide)).symm
        · exact ((pdats m 1 c).arrAt_in 4 rfl _).trans (afterConv_ne m c main_v11 (by decide)).symm
        · exact (afterConv_out m c).symm)
      (fun b hb => afterConv_ne m c b fun h => hb (h ▸ Finset.mem_image.mpr ⟨5, Finset.mem_univ _, rfl⟩))
    iintro ⟨Ha, HO, Hg, Hrest⟩
    imodintro
    isplitl [Ha Hrest]
    · iapply hjoin; isplitl [Ha] <;> iassumption
    isplitl [Hg]; · iexact Hg
    unfold Pipeline.Dat.owesAt Pipeline.owesWithin
    icases HO with ⟨%W, -, HO⟩; iexists W; iexact HO

/-! ## The run -/

abbrev ER : Emb (UR sig nD τ) 𝕄 :=
  (Emb.refl _).trans (uEmb (nD := nD) (sig := sig) (Ix := Unit) (Val := Elt F) (Name := ℕ) (U := UR sig nD τ) (Lvl := ℕ)).toEmb

/-- A core's buffers at a valuation, in the two spellings the segments use. -/
theorem held_bufs (c : Dev nD) (V : Valuation τ sig (Elt F)) :
    (iprop(StableHlo.held (c : Thread nD τ) (Pipeline.ucRefs τ sig) V ∗ rest (F := F) c) ⊢ iprop(unscopedBufs c (fun b => V b) ∗ rest (F := F) c))
    ∧ (iprop(unscopedBufs c (fun b => V b) ∗ rest (F := F) c) ⊢ iprop(StableHlo.held (c : Thread nD τ) (Pipeline.ucRefs τ sig) V ∗ rest (F := F) c)) := by
  rw [← Pipeline.unscopedBufs_held (Ix := Unit) (Name := ℕ) (U := UR sig nD τ) (Lvl := ℕ) c V]
  exact ⟨.rfl, .rfl⟩

set_option backward.isDefEq.respectTransparency.types false in
/-- The program ends, with every buffer the kernels do not keep to themselves at the last valuation, every counter at zero. -/
theorem run : θ_run defs (onTc (τ := τ) (main (F := F))) ⟨m, fun _ => 0, ρ⟩ (fun r => (∀ (c : Dev nD) (b : Ref sig .tc),
      (Proc.devRef (τ := τ) .tc b).isScoped = false → r.2.mem ((c : Thread nD τ).loc b) = V5 m (outs m) c b)
    ∧ r.2.sem = fun _ => 0) := by
  refine Pipeline.θ_run_regions_kit_dev_sems (pcfgs (F := F)) adm (pdats m) () cellOf_inj ER defs₀ Variants.none L lv m ρ main
    (segs m (outs m) Variants.none L lv (fun _ => rest) () (pdats m) (poolSeg m) (convSeg m))
    (fun c Q => by
      rewrite [main_chain c, Seg.run_eq_chain,
        show (segs m (outs m) Variants.none L lv (fun _ => rest) () (pdats m) (poolSeg m) (convSeg m) c).map Seg.prog
          = [StableHlo.seq hostOps0, Prog.lift (.customCall (Pipeline.entry 0) ()), StableHlo.seq hostOps1,
              Prog.lift (.customCall (Pipeline.entry 1) ()), StableHlo.seq hostOps2] from rfl]
      exact .rfl)
    (fun c => by simp only [segs, Seg.pipes_host, Seg.pipes_region, Seg.pipes_nil]; decide) (fun _ => 0) (fun _ _ => rfl)
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨.rfl, ?_, ?_, ?_, ?_, sep_mono .rfl ?_⟩)
    (hinit := ?_)
    (QY := fun c s => ∀ b : Ref sig .tc, (Proc.devRef (τ := τ) .tc b).isScoped = false →
      s.mem ((c : Thread nD τ).loc b) = V5 m (outs m) c b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (ER (initOf (Pipeline.cells cfgs cellOf_inj) (Pipeline.launchToks cfgs cellOf_inj))) from BI.Entails.refl _)
      iexact Hu
    iapply (show (BI.emp : sProp 𝕄) ⊢ bigSep Finset.univ (fun _ : Dev nD => (BI.emp : sProp 𝕄)) from by rw [BI.bigSep_emp_const])
    iempintro
  · exact (held_bufs c (V1 m c)).1
  · exact (held_bufs c (V2 m (outs m) c)).2
  · exact (by rw [V3_eq]; exact (held_bufs c (mid m c)).1 : iprop(StableHlo.held (c : Thread nD τ) (Pipeline.ucRefs τ sig) (V3 m (outs m) c) ∗ rest (F := F) c)
      ⊢ iprop(unscopedBufs c (E1 m c) ∗ rest c))
  · exact (held_bufs c (V4 m (outs m) c)).2
  · iintro ⟨-, HO⟩; iexact HO
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, Hg, -⟩, -⟩
    imodintro
    isplitl [Hh]; · iexact Hh
    isplitl [Hg]; · iexists _; iexact Hg
    iexists _; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by rw [hb]; exact Bool.false_ne_true⟩)
    · iexact HSI

/-- The program ends with its arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0) :=
  (run m ρ).mono fun r h => ⟨fun c => ⟨(h.1 c main_arg0 (by decide)).trans (V5_main_arg0 m (outs m) c),
      (h.1 c main_arg1 (by decide)).trans (V5_main_arg1 m (outs m) c),
      (h.1 c main_arg2 (by decide)).trans (V5_main_arg2 m (outs m) c),
      (h.1 c main_arg3 (by decide)).trans (V5_main_arg3 m (outs m) c),
      (h.1 c main_arg4 (by decide)).trans (V5_main_arg4 m (outs m) c),
      (h.1 c main_arg5 (by decide)).trans (V5_main_arg5 m (outs m) c),
      (h.1 c main_arg6 (by decide)).trans (V5_main_arg6 m (outs m) c),
      (h.1 c main_arg7 (by decide)).trans (V5_main_arg7 m (outs m) c),
      (h.1 c main_arg8 (by decide)).trans (V5_main_arg8 m (outs m) c),
      (h.1 c main_arg9 (by decide)).trans (V5_main_arg9 m (outs m) c)⟩, h.2⟩

end Cert.KernelIdeal.Own

end
-- ==== Proof.Value.Spec.lean ====
/- What both programs compute, as plain sums over channels, classes, rows and columns. -/
module

public import Idealize.ShloMosaic.Lib.Pointwise
public import Idealize.ShloMosaic.Lib.WordCmp

@[expose] public section

noncomputable section

namespace Cert.Style

open Idealize.ShloMosaic

/-- One if a pixel labelled `v` has class `s`, else zero.  Class 0 is label -1. -/
def ind (v : BitVec 32) (s : Fin 20) : EReal := if v + 1#32 = BitVec.ofNat 32 s then 1 else 0

/-- The number of pixels of class `s`. -/
def area (g : Fin 128 → Fin 128 → BitVec 32) (s : Fin 20) : EReal := ∑ h, ∑ w, ind (g h w) s

/-- The sum of channel `k` over the pixels of class `s`. -/
def total (x : Fin 64 → Fin 128 → Fin 128 → EReal) (g : Fin 128 → Fin 128 → BitVec 32) (k : Fin 64) (s : Fin 20) : EReal :=
  ∑ h, ∑ w, x k h w * ind (g h w) s

/-- The mean of channel `k` over the pixels of class `s`, zero if there are none. -/
def mean (x : Fin 64 → Fin 128 → Fin 128 → EReal) (g : Fin 128 → Fin 128 → BitVec 32) (k : Fin 64) (s : Fin 20) : EReal :=
  if 0 < area g s then Ideal.div (total x g k s) (max (area g s) 1) else 0

/-- The mean of channel `k` over the whole image. -/
def whole (x : Fin 64 → Fin 128 → Fin 128 → EReal) (k : Fin 64) : EReal :=
  Ideal.div (∑ h, ∑ w, x k h w) (Ideal.ofBits .f32 0x46800000#32)

/-- Channel `k` of the style vector of class `s`. -/
def style (x : Fin 64 → Fin 128 → Fin 128 → EReal) (g : Fin 128 → Fin 128 → BitVec 32)
    (fw : Fin 20 → Fin 64 → Fin 64 → EReal) (fb : Fin 20 → Fin 64 → EReal) (k : Fin 64) (s : Fin 20) : EReal :=
  if s ≠ 0 ∧ ∑ j, mean x g j s ≠ 0 then max (∑ j, fw s k j * mean x g j s + fb s k) 0
  else max (∑ j, fw 0 k j * whole x j + fb 0 k) 0

/-- A pixel takes the style vector of its class. -/
def field (v : Fin 64 → Fin 20 → EReal) (g : Fin 128 → Fin 128 → BitVec 32) (k : Fin 64) (h w : Fin 128) : EReal :=
  ∑ s, v k s * ind (g h w) s

/-- A channel with a border of zeros, one pixel wide. -/
def bordered (f : Fin 128 → Fin 128 → EReal) (h w : ℕ) : EReal :=
  if p : (1 ≤ h ∧ h - 1 < 128) ∧ 1 ≤ w ∧ w - 1 < 128 then f ⟨h - 1, p.1.2⟩ ⟨w - 1, p.2.2⟩ else 0

/-- One of the nine shifted products. -/
def tap (f : Fin 64 → Fin 128 → Fin 128 → EReal) (w : Fin 64 → Fin 64 → Fin 3 → Fin 3 → EReal) (o : Fin 64) (h l : Fin 128)
    (a b : Fin 3) : EReal :=
  ∑ k, w o k a b * bordered (f k) (a.val + h.val) (b.val + l.val)

/-- The 3x3 convolution with a bias, negative values cut off. -/
def conv (f : Fin 64 → Fin 128 → Fin 128 → EReal) (w : Fin 64 → Fin 64 → Fin 3 → Fin 3 → EReal) (bias : Fin 64 → EReal)
    (o : Fin 64) (h l : Fin 128) : EReal :=
  max (tap f w o h l 0 0 + tap f w o h l 0 1 + tap f w o h l 0 2 + tap f w o h l 1 0 + tap f w o h l 1 1 + tap f w o h l 1 2
    + tap f w o h l 2 0 + tap f w o h l 2 1 + tap f w o h l 2 2 + bias o) 0

/-- The word comparison of a label with a class number, read as a number. -/
theorem ind_signed (v : BitVec 32) (s : Fin 20) :
    (FloatOps.sitofp .f32 (BitVec.setWidth 32 (IntOp.cmpi .eq v (IntOp.subi (BitVec.ofNat 32 s.val) 1#32))) : Ideal .f32) = ind v s := by
  have e : (v = BitVec.ofNat 32 s.val - 1#32) ↔ v + 1#32 = BitVec.ofNat 32 s.val := by
    constructor
    · rintro rfl; exact BitVec.sub_add_cancel _ _
    · intro h; rw [← h]; exact (BitVec.add_sub_cancel _ _).symm
  unfold ind
  by_cases h : v = BitVec.ofNat 32 s.val - 1#32
  · rw [if_pos (e.1 h)]
    simp [IntOp.cmpi, IntOp.subi, h, FloatOps.sitofp]
  · rw [if_neg (fun k => h (e.2 k))]
    simp [IntOp.cmpi, IntOp.subi, beq_eq_false_iff_ne.2 h, FloatOps.sitofp]

theorem ind_unsigned (v : BitVec 32) (s : Fin 20) :
    (FloatOps.uitofp .f32 (IntOp.cmpi .eq (IntOp.addi v 1#32) (BitVec.ofNat 32 s.val)) : Ideal .f32) = ind v s := by
  unfold ind
  by_cases h : v + 1#32 = BitVec.ofNat 32 s.val
  · rw [if_pos h]
    simp [IntOp.cmpi, IntOp.addi, h, FloatOps.uitofp]
  · rw [if_neg h]
    simp [IntOp.cmpi, IntOp.addi, h, FloatOps.uitofp]

/-- The condition for a class's own style vector: it is not class 0 and its means do not add up to zero. -/
theorem select_use {α : Type} (s : Fin 20) (t : EReal) (a b : α) :
    Scalar.select (IntOp.andi (IntOp.cmpi .ne (BitVec.ofNat 32 s.val) 0#32) (BitVec.ofBool (decide (t ≠ 0)))) a b
      = if s ≠ 0 ∧ t ≠ 0 then a else b := by
  have e : (BitVec.ofNat 32 s.val = 0#32) ↔ s = 0 := by revert s; decide
  by_cases h : s = 0
  · simp [Scalar.select, IntOp.andi, IntOp.cmpi, h]
  · have h' : ¬ BitVec.ofNat 32 s.val = 0#32 := fun k => h (e.1 k)
    by_cases k : t = 0 <;> simp [Scalar.select, IntOp.andi, IntOp.cmpi, h, h', k, bne, beq_eq_false_iff_ne.2 h']

/-- Equality of two class numbers as words. -/
theorem select_class {α : Type} (s s' : Fin 20) (a b : α) :
    Scalar.select (IntOp.cmpi .eq (BitVec.ofNat 32 s.val) (BitVec.ofNat 32 s'.val)) a b = if s = s' then a else b := by
  have e : (BitVec.ofNat 32 s.val = BitVec.ofNat 32 s'.val) ↔ s = s' := by revert s s'; decide
  by_cases h : s = s'
  · simp [Scalar.select, IntOp.cmpi, h]
  · simp [Scalar.select, IntOp.cmpi, h, beq_eq_false_iff_ne.2 fun k => h (e.1 k)]

/-! ## Flat pixels -/

/-- The flat number of a pixel. -/
def pix (h w : Fin 128) : Fin 16384 := ⟨h.val * 128 + w.val, by omega⟩

theorem sum_pix (f : Fin 16384 → EReal) : ∑ p, f p = ∑ h, ∑ w, f (pix h w) := Fin.sum_univ_tiles 128 128 rfl f

/-! ## The whole image's mean out of the classes' sums -/

/-- Every pixel has a class. -/
def Labelled (g : Fin 128 → Fin 128 → BitVec 32) : Prop := ∀ h w, ∃ s : Fin 20, g h w + 1#32 = BitVec.ofNat 32 s.val

theorem sum_ind (v : BitVec 32) (y : EReal) (hv : ∃ s : Fin 20, v + 1#32 = BitVec.ofNat 32 s.val) : ∑ s, y * ind v s = y := by
  obtain ⟨s, hs⟩ := hv
  have e : ∀ s' : Fin 20, BitVec.ofNat 32 s.val = BitVec.ofNat 32 s'.val → s = s' := by clear hs; revert s; decide
  rw [Finset.sum_eq_single s (fun s' _ h => by rw [ind, if_neg (fun k => h (e s' (hs.symm.trans k)).symm), mul_zero])
    (fun h => absurd (Finset.mem_univ _) h), ind, if_pos hs, mul_one]

theorem sum_total (x : Fin 64 → Fin 128 → Fin 128 → EReal) (g : Fin 128 → Fin 128 → BitVec 32) (hg : Labelled g) (k : Fin 64) :
    ∑ s, total x g k s = ∑ h, ∑ w, x k h w := by
  unfold total
  rw [Finset.sum_comm]
  refine Finset.sum_congr rfl fun h _ => ?_
  rw [Finset.sum_comm]
  exact Finset.sum_congr rfl fun w _ => sum_ind _ _ (hg h w)

theorem bits_16384 : Ideal.ofBits .f32 0x46800000#32 = ((16384 : ℝ) : EReal) := by
  simp [Ideal.ofBits, Ideal.ieee, -EReal.coe_mul]; norm_num

theorem bits_inv : Ideal.ofBits .f32 0x38800000#32 = ((1 / 16384 : ℝ) : EReal) := by
  simp [Ideal.ofBits, Ideal.ieee, -EReal.coe_mul]; norm_num

theorem whole_eq (x : Fin 64 → Fin 128 → Fin 128 → EReal) (g : Fin 128 → Fin 128 → BitVec 32) (hg : Labelled g) (k : Fin 64) :
    (∑ s, total x g k s) * Ideal.ofBits .f32 0x38800000#32 = whole x k := by
  rw [whole, sum_total x g hg k, bits_16384, Ideal.div_coe (by norm_num), bits_inv]

end Cert.Style

end
-- ==== Proof.Value.Labels.lean ====
/- What the precondition says of the two segmentations: every pixel has a class. -/
module

public import proofs.«01_k».proof.Proof.Gen.Pre_classes
public import proofs.«01_k».proof.Proof.Value.Spec
public import Idealize.ShloMosaic.Lib.ReduceAll
public import Idealize.ShloMosaic.Lib.Pointwise

@[expose] public section

set_option maxRecDepth 16384

noncomputable section

namespace Cert.Pre_classes.Own

open Cert.Pre_classes Cert.Pre_classes.Gen
open Idealize.ShloMosaic
open Cert.Style

/-- A word between -1 and 18 is one less than a class number. -/
theorem class_of_range (v : BitVec 32) (h : IntOp.andi (IntOp.cmpi .sge v 4294967295#32) (IntOp.cmpi .slt v 19#32) = 1#1) :
    ∃ s : Fin 20, v + 1#32 = BitVec.ofNat 32 s.val := by
  obtain ⟨h1, h2⟩ := IntOp.andi_eq_one.1 h
  have g1 : -1 ≤ v.toInt := by
    have k : BitVec.ofBool (decide (-1 ≤ v.toInt)) = 1#1 := by simpa [IntOp.cmpi, BitVec.sle] using h1
    by_contra hn
    simp [hn] at k
  have g2 : v.toInt < 19 := by
    have k : BitVec.ofBool (decide (v.toInt < 19)) = 1#1 := by simpa [IntOp.cmpi, BitVec.slt] using h2
    by_contra hn
    simp [hn] at k
  refine ⟨⟨(v.toInt + 1).toNat, by omega⟩, ?_⟩
  apply BitVec.eq_of_toInt_eq
  rw [BitVec.toInt_add]
  show (v.toInt + 1).bmod (2 ^ 32) = _
  refine Eq.trans ?_ (BitVec.toInt_ofNat' _).symm
  show _ = (((v.toInt + 1).toNat : ℕ) : ℤ).bmod (2 ^ 32)
  rw [Int.toNat_of_nonneg (by omega)]

theorem labelled_of_all (g : IVec S4x128x128 32)
    (h : Host.reduce IntOp.andi (andi (cmpi .sge g (broadcastInDim S4x128x128 ![] bcast_S_S4x128x128 (constantI S_ 32 4294967295#32)))
      (cmpi .slt g (broadcastInDim S4x128x128 ![] bcast_S_S4x128x128 (constantI S_ 32 19#32)))) (constantI S_ 1 1#1) reducesTo_S4x128x128_S_d0_1_2 h_S_
      (Shape.Idx.first h_S_) = 1#1) (i : Fin 4) : Labelled (fun h w => g (ix3 i h w)) := by
  haveI : Subsingleton S_.Idx := ⟨fun a b => funext fun k => k.elim0⟩
  intro y x
  exact class_of_range _ (Host.reduce_andi_all _ _ _ _ _ h (ix3 i y x))

theorem labelled (a b : FVec Ideal S4x64x128x128 .f32) (g h : IVec S4x128x128 32) (fw : FVec Ideal S20x64x64 .f32) (fb : FVec Ideal S20x64 .f32)
    (gw : FVec Ideal S64x64x3x3 .f32) (gb : FVec Ideal S64 .f32) (bw : FVec Ideal S64x64x3x3 .f32) (bb : FVec Ideal S64 .f32)
    (e : fn (F := Ideal) a b g h fw fb gw gb bw bb = fun _ => 1#1) :
    (∀ i, Labelled (fun y x => g (ix3 i y x))) ∧ ∀ i, Labelled (fun y x => h (ix3 i y x)) := by
  obtain ⟨e1, e2⟩ := IntOp.andi_eq_one.1 (congrFun e (Shape.Idx.first h_S_))
  exact ⟨labelled_of_all g e1, labelled_of_all h e2⟩

end Cert.Pre_classes.Own
-- ==== Proof.Value.RefTerms.lean ====
/- The reference's stages as functions of arrays, at extended reals. -/
module

public import proofs.«01_k».proof.Proof.Gen.ReferenceIdeal
public import Idealize.ShloMosaic.Lib.Pointwise

@[expose] public section

set_option maxRecDepth 16384

noncomputable section

namespace Cert.ReferenceIdeal.Own

open Cert.ReferenceIdeal Cert.ReferenceIdeal.Gen
open Idealize.ShloMosaic Idealize.ShloMosaic.TcCoe Idealize.SL.Sem

/-- The one-hot class maps of a segmentation map: image, class, row, column. -/
def hotT (g : IVec S4x128x128 32) : FVec Ideal S4x20x128x128 .f32 :=
  transpose S4x20x128x128 [0, 3, 1, 2] (uitofp .f32 (cmpi .eq (broadcastInDim S4x128x128x20 ![0, 1, 2, 3] bcast_S4x128x128x1_S4x128x128x20_0_1_2_3
    (broadcastInDim S4x128x128x1 ![0, 1, 2] bcast_S4x128x128_S4x128x128x1_0_1_2 (addi g (broadcastInDim S4x128x128 ![] bcast_S_S4x128x128 (constantI S_
    32 1#32))))) (broadcastInDim S4x128x128x20 ![0, 1, 2, 3] bcast_S1x1x1x20_S4x128x128x20_0_1_2_3 (iotaInDim S1x1x1x20 32 3))))
    transposes_S4x128x128x20_S4x20x128x128_0_3_1_2

/-- How many pixels every class has. -/
def areaT (o : FVec Ideal S4x20x128x128 .f32) : FVec Ideal S4x20 .f32 :=
  Host.reduceAdd o (constant S_ .f32 0x00000000#32) reducesTo_S4x20x128x128_S4x20_d2_3 h_S_

/-- The style matrix of a feature map: each class's mean, then the mean over the whole image. -/
def matT (x : FVec Ideal S4x64x128x128 .f32) (o : FVec Ideal S4x20x128x128 .f32) : FVec Ideal S4x21x64 .f32 :=
  concatenate S4x21x64 1 [⟨S4x20x64, (select (broadcastInDim S4x20x64 ![0, 1, 2] bcast_S4x20x1_S4x20x64_0_1_2 (cmpf .ogt (broadcastInDim S4x20x1 ![0, 1]
    bcast_S4x20_S4x20x1_0_1 (areaT o)) (broadcastInDim S4x20x1 ![] bcast_S_S4x20x1 (constant S_ .f32 0x00000000#32)))) (Host.divf (Host.dotGeneral
    dot_S4x20x128x128_S4x64x128x128_S4x20x64_23_23_1_1_0_0 none o x) (broadcastInDim S4x20x64 ![0, 1, 2] bcast_S4x20x1_S4x20x64_0_1_2 (maximumf
    (broadcastInDim S4x20x1 ![0, 1] bcast_S4x20_S4x20x1_0_1 (areaT o)) (broadcastInDim S4x20x1 ![] bcast_S_S4x20x1 (constant S_ .f32 0x3F800000#32)))))
    (broadcastInDim S4x20x64 ![] bcast_S_S4x20x64 (id (constant S_ .f32 0x00000000#32))))⟩, ⟨S4x1x64, (broadcastInDim S4x1x64 ![0, 2]
    bcast_S4x64_S4x1x64_0_2 (Host.divf (Host.reduceAdd x (constant S_ .f32 0x00000000#32) reducesTo_S4x64x128x128_S4x64_d2_3 h_S_) (broadcastInDim
    S4x64 ![] bcast_S_S4x64 (constant S_ .f32 0x46800000#32))))⟩] concatenates_S4x20x64_S4x1x64_S4x21x64_d1

/-- The style matrix without its last row. -/
def classesT (z : FVec Ideal S4x21x64 .f32) : FVec Ideal S4x20x64 .f32 :=
  extractStridedSlice S4x20x64 ![0, 0, 0] z slices_S4x21x64_S4x20x64_0_0_0

/-- The style vector of every class, out of a style matrix. -/
def styleT (z : FVec Ideal S4x21x64 .f32) (fw : FVec Ideal S20x64x64 .f32) (fb : FVec Ideal S20x64 .f32) : FVec Ideal S4x20x64 .f32 :=
  select (broadcastInDim S4x20x64 ![0, 1, 2] bcast_S4x20x1_S4x20x64_0_1_2 (broadcastInDim S4x20x1 ![0, 1] bcast_S4x20_S4x20x1_0_1 (andi (broadcastInDim
    S4x20 ![0, 1] bcast_S1x20_S4x20_0_1 (cmpi .ne (broadcastInDim S1x20 ![1] bcast_S20_S1x20_1 (iotaInDim S20 32 0)) (broadcastInDim S1x20 ![]
    bcast_S_S1x20 (constantI S_ 32 0#32)))) (cmpf .une (Host.reduceAdd (classesT z) (constant S_ .f32 0x00000000#32) reducesTo_S4x20x64_S4x20_d2 h_S_)
    (broadcastInDim S4x20 ![] bcast_S_S4x20 (constant S_ .f32 0x00000000#32)))))) (maximumf (addf (transpose S4x20x64 [2, 0, 1] (Host.dotGeneral
    dot_S20x64x64_S4x20x64_S20x64x4_2_2_1_0_0_1 none fw (classesT z)) transposes_S20x64x4_S4x20x64_2_0_1) (broadcastInDim S4x20x64 ![0, 1, 2]
    bcast_S1x20x64_S4x20x64_0_1_2 (broadcastInDim S1x20x64 ![1, 2] bcast_S20x64_S1x20x64_1_2 fb))) (broadcastInDim S4x20x64 ![] bcast_S_S4x20x64
    (constant S_ .f32 0x00000000#32))) (broadcastInDim S4x20x64 ![0, 1, 2] bcast_S4x1x64_S4x20x64_0_1_2 (broadcastInDim S4x1x64 ![0, 2]
    bcast_S4x64_S4x1x64_0_2 (maximumf (addf (Host.dotGeneral dot_S4x64_S64x64_S4x64_1_0_0_1_n_n none (shapeCast _ (extractStridedSlice S4x1x64 ![0, 20,
    0] z slices_S4x21x64_S4x1x64_0_20_0) shapeCasts_S4x1x64_S4x64) (transpose S64x64 [1, 0] (shapeCast _ (extractStridedSlice S1x64x64 ![0, 0, 0] fw
    slices_S20x64x64_S1x64x64_0_0_0) shapeCasts_S1x64x64_S64x64) transposes_S64x64_S64x64_1_0)) (broadcastInDim S4x64 ![0, 1] bcast_S1x64_S4x64_0_1
    (broadcastInDim S1x64 ![1] bcast_S64_S1x64_1 (shapeCast _ (extractStridedSlice S1x64 ![0, 0] fb slices_S20x64_S1x64_0_0) shapeCasts_S1x64_S64))))
    (broadcastInDim S4x64 ![] bcast_S_S4x64 (constant S_ .f32 0x00000000#32)))))

/-- Every pixel takes the style vector of its class. -/
def fieldT (v : FVec Ideal S4x20x64 .f32) (o : FVec Ideal S4x20x128x128 .f32) : FVec Ideal S4x64x128x128 .f32 :=
  Host.dotGeneral dot_S4x20x64_S4x20x128x128_S4x64x128x128_1_1_2_23_0_0 none v o

/-- A map with a border of zeros. -/
def paddedT (f : FVec Ideal S4x64x128x128 .f32) : FVec Ideal S4x64x130x130 .f32 :=
  pad S4x64x130x130 ![0, 0, 1, 1] ![0, 0, 1, 1] ![0, 0, 0, 0] f (sitofp .f32 (constantI S_ 32 0#32)) pads_S4x64x128x128_S4x64x130x130_000_000_110_110
    h_S_

/-- The nine shifted products of a bordered map with a filter bank, added up. -/
def tapsT (q : FVec Ideal S4x64x130x130 .f32) (w : FVec Ideal S64x64x3x3 .f32) : FVec Ideal S4x64x128x128 .f32 :=
  addf (addf (addf (addf (addf (addf (addf (addf (addf (broadcastInDim S4x64x128x128 ![] bcast_S_S4x64x128x128 (constant S_ .f32 0x00000000#32))
    (transpose S4x64x128x128 [1, 0, 2, 3] (Host.dotGeneral dot_S64x64_S4x64x128x128_S64x4x128x128_1_1_0_023_n_n none (shapeCast _ (extractStridedSlice
    S64x64x1x1 ![0, 0, 0, 0] w slices_S64x64x3x3_S64x64x1x1_0_0_0_0) shapeCasts_S64x64x1x1_S64x64) (extractStridedSlice S4x64x128x128 ![0, 0, 0, 0] q
    slices_S4x64x130x130_S4x64x128x128_0_0_0_0)) transposes_S64x4x128x128_S4x64x128x128_1_0_2_3)) (transpose S4x64x128x128 [1, 0, 2, 3]
    (Host.dotGeneral dot_S64x64_S4x64x128x128_S64x4x128x128_1_1_0_023_n_n none (shapeCast _ (extractStridedSlice S64x64x1x1 ![0, 0, 0, 1] w
    slices_S64x64x3x3_S64x64x1x1_0_0_0_1) shapeCasts_S64x64x1x1_S64x64) (extractStridedSlice S4x64x128x128 ![0, 0, 0, 1] q
    slices_S4x64x130x130_S4x64x128x128_0_0_0_1)) transposes_S64x4x128x128_S4x64x128x128_1_0_2_3)) (transpose S4x64x128x128 [1, 0, 2, 3]
    (Host.dotGeneral dot_S64x64_S4x64x128x128_S64x4x128x128_1_1_0_023_n_n none (shapeCast _ (extractStridedSlice S64x64x1x1 ![0, 0, 0, 2] w
    slices_S64x64x3x3_S64x64x1x1_0_0_0_2) shapeCasts_S64x64x1x1_S64x64) (extractStridedSlice S4x64x128x128 ![0, 0, 0, 2] q
    slices_S4x64x130x130_S4x64x128x128_0_0_0_2)) transposes_S64x4x128x128_S4x64x128x128_1_0_2_3)) (transpose S4x64x128x128 [1, 0, 2, 3]
    (Host.dotGeneral dot_S64x64_S4x64x128x128_S64x4x128x128_1_1_0_023_n_n none (shapeCast _ (extractStridedSlice S64x64x1x1 ![0, 0, 1, 0] w
    slices_S64x64x3x3_S64x64x1x1_0_0_1_0) shapeCasts_S64x64x1x1_S64x64) (extractStridedSlice S4x64x128x128 ![0, 0, 1, 0] q
    slices_S4x64x130x130_S4x64x128x128_0_0_1_0)) transposes_S64x4x128x128_S4x64x128x128_1_0_2_3)) (transpose S4x64x128x128 [1, 0, 2, 3]
    (Host.dotGeneral dot_S64x64_S4x64x128x128_S64x4x128x128_1_1_0_023_n_n none (shapeCast _ (extractStridedSlice S64x64x1x1 ![0, 0, 1, 1] w
    slices_S64x64x3x3_S64x64x1x1_0_0_1_1) shapeCasts_S64x64x1x1_S64x64) (extractStridedSlice S4x64x128x128 ![0, 0, 1, 1] q
    slices_S4x64x130x130_S4x64x128x128_0_0_1_1)) transposes_S64x4x128x128_S4x64x128x128_1_0_2_3)) (transpose S4x64x128x128 [1, 0, 2, 3]
    (Host.dotGeneral dot_S64x64_S4x64x128x128_S64x4x128x128_1_1_0_023_n_n none (shapeCast _ (extractStridedSlice S64x64x1x1 ![0, 0, 1, 2] w
    slices_S64x64x3x3_S64x64x1x1_0_0_1_2) shapeCasts_S64x64x1x1_S64x64) (extractStridedSlice S4x64x128x128 ![0, 0, 1, 2] q
    slices_S4x64x130x130_S4x64x128x128_0_0_1_2)) transposes_S64x4x128x128_S4x64x128x128_1_0_2_3)) (transpose S4x64x128x128 [1, 0, 2, 3]
    (Host.dotGeneral dot_S64x64_S4x64x128x128_S64x4x128x128_1_1_0_023_n_n none (shapeCast _ (extractStridedSlice S64x64x1x1 ![0, 0, 2, 0] w
    slices_S64x64x3x3_S64x64x1x1_0_0_2_0) shapeCasts_S64x64x1x1_S64x64) (extractStridedSlice S4x64x128x128 ![0, 0, 2, 0] q
    slices_S4x64x130x130_S4x64x128x128_0_0_2_0)) transposes_S64x4x128x128_S4x64x128x128_1_0_2_3)) (transpose S4x64x128x128 [1, 0, 2, 3]
    (Host.dotGeneral dot_S64x64_S4x64x128x128_S64x4x128x128_1_1_0_023_n_n none (shapeCast _ (extractStridedSlice S64x64x1x1 ![0, 0, 2, 1] w
    slices_S64x64x3x3_S64x64x1x1_0_0_2_1) shapeCasts_S64x64x1x1_S64x64) (extractStridedSlice S4x64x128x128 ![0, 0, 2, 1] q
    slices_S4x64x130x130_S4x64x128x128_0_0_2_1)) transposes_S64x4x128x128_S4x64x128x128_1_0_2_3)) (transpose S4x64x128x128 [1, 0, 2, 3]
    (Host.dotGeneral dot_S64x64_S4x64x128x128_S64x4x128x128_1_1_0_023_n_n none (shapeCast _ (extractStridedSlice S64x64x1x1 ![0, 0, 2, 2] w
    slices_S64x64x3x3_S64x64x1x1_0_0_2_2) shapeCasts_S64x64x1x1_S64x64) (extractStridedSlice S4x64x128x128 ![0, 0, 2, 2] q
    slices_S4x64x130x130_S4x64x128x128_0_0_2_2)) transposes_S64x4x128x128_S4x64x128x128_1_0_2_3)

/-- The convolution of a map with a filter bank, its bias added, negative values cut off. -/
def convT (f : FVec Ideal S4x64x128x128 .f32) (w : FVec Ideal S64x64x3x3 .f32) (b : FVec Ideal S64 .f32) : FVec Ideal S4x64x128x128 .f32 :=
  maximumf (addf (tapsT (paddedT f) w) (broadcastInDim S4x64x128x128 ![0, 1, 2, 3] bcast_S1x64x1x1_S4x64x128x128_0_1_2_3
    (broadcastInDim S1x64x1x1 ![1] bcast_S64_S1x64x1x1_1 b))) (broadcastInDim S4x64x128x128 ![] bcast_S_S4x64x128x128 (constant S_ .f32 0x00000000#32))

end Cert.ReferenceIdeal.Own

end
-- ==== Proof.Value.RefValue.lean ====
/- The reference's stages read at an index. -/
module

public import proofs.«01_k».proof.Proof.Value.RefTerms
public import proofs.«01_k».proof.Proof.Value.Spec

@[expose] public section

set_option maxRecDepth 16384

noncomputable section

namespace Cert.ReferenceIdeal.Own

open Cert.ReferenceIdeal Cert.ReferenceIdeal.Gen
open Idealize.ShloMosaic Idealize.ShloMosaic.TcCoe Idealize.SL.Sem
open Cert.Style

/-- Image `i` of a feature array. -/
abbrev imgR (x : FVec Ideal S4x64x128x128 .f32) (i : Fin 4) : Fin 64 → Fin 128 → Fin 128 → EReal := fun k h w => x (ix4 i k h w)

/-- Image `i` of a segmentation array. -/
abbrev segR (g : IVec S4x128x128 32) (i : Fin 4) : Fin 128 → Fin 128 → BitVec 32 := fun h w => g (ix3 i h w)

theorem hotT_at (g : IVec S4x128x128 32) (i : Fin 4) (s : Fin 20) (h w : Fin 128) :
    hotT g (ix4 i s h w) = ind (segR g i h w) s := by
  pointwise [hotT]
  exact ind_unsigned _ _

theorem classes_at (x : FVec Ideal S4x64x128x128 .f32) (g : IVec S4x128x128 32) (i : Fin 4) (s : Fin 20) (k : Fin 64) :
    classesT (matT x (hotT g)) (ix3 i s k) = mean (imgR x i) (segR g i) k s := by
  unfold mean area total
  pointwise [classesT, matT, areaT]
  simp only [hotT_at, mul_comm (ind _ _)]
  rw [show (id (constant S_ FTy.f32 0#32) ix0 : Ideal .f32) = (0 : EReal) from Ideal.ofBits_zero_f32]

theorem whole_at (x : FVec Ideal S4x64x128x128 .f32) (o : FVec Ideal S4x20x128x128 .f32) (i : Fin 4) (k : Fin 64) :
    matT x o (ix3 i (20 : Fin 21) k) = whole (imgR x i) k := by
  unfold whole
  pointwise [matT]

theorem style_at (x : FVec Ideal S4x64x128x128 .f32) (g : IVec S4x128x128 32) (fw : FVec Ideal S20x64x64 .f32)
    (fb : FVec Ideal S20x64 .f32) (i : Fin 4) (s : Fin 20) (k : Fin 64) :
    styleT (matT x (hotT g)) fw fb (ix3 i s k)
      = style (imgR x i) (segR g i) (fun s k j => fw (ix3 s k j)) (fun s k => fb (ix2 s k)) k s := by
  unfold style
  pointwise [styleT]
  rw [select_use]
  simp only [classes_at, whole_at, mul_comm (whole _ _)]

theorem field_at (v : FVec Ideal S4x20x64 .f32) (g : IVec S4x128x128 32) (i : Fin 4) (k : Fin 64) (h w : Fin 128) :
    fieldT v (hotT g) (ix4 i k h w) = field (fun k s => v (ix3 i s k)) (segR g i) k h w := by
  unfold field
  pointwise [fieldT]
  simp only [hotT_at]

theorem padded_at (f : FVec Ideal S4x64x128x128 .f32) (i : Fin 4) (k : Fin 64) (h w : Fin 130) :
    paddedT f (ix4 i k h w) = bordered (fun h w => f (ix4 i k h w)) h w := by
  unfold bordered
  pointwise [paddedT]
  rw [show (FloatOps.sitofp .f32 0#32 : Ideal .f32) = (0 : EReal) by simp [FloatOps.sitofp]]

theorem conv_at (f : FVec Ideal S4x64x128x128 .f32) (w : FVec Ideal S64x64x3x3 .f32) (b : FVec Ideal S64 .f32) (i : Fin 4) (o : Fin 64) (h l : Fin 128) :
    convT f w b (ix4 i o h l) = conv (imgR f i) (fun o k a b => w (ix4 o k a b)) (fun o => b (ix1 o)) o h l := by
  unfold conv tap
  pointwise [convT, tapsT]
  simp only [padded_at]

/-- One of the eight results: style of `x` under `g`, laid out by `g'`, convolved. -/
def partT (x : FVec Ideal S4x64x128x128 .f32) (g g' : IVec S4x128x128 32) (fw : FVec Ideal S20x64x64 .f32) (fb : FVec Ideal S20x64 .f32)
    (w : FVec Ideal S64x64x3x3 .f32) (b : FVec Ideal S64 .f32) : FVec Ideal S4x64x128x128 .f32 :=
  convT (fieldT (styleT (matT x (hotT g)) fw fb) (hotT g')) w b

theorem part_at (x : FVec Ideal S4x64x128x128 .f32) (g g' : IVec S4x128x128 32) (fw : FVec Ideal S20x64x64 .f32) (fb : FVec Ideal S20x64 .f32)
    (w : FVec Ideal S64x64x3x3 .f32) (b : FVec Ideal S64 .f32) (i : Fin 4) (o : Fin 64) (h l : Fin 128) :
    partT x g g' fw fb w b (ix4 i o h l)
      = conv (field (style (imgR x i) (segR g i) (fun s k j => fw (ix3 s k j)) (fun s k => fb (ix2 s k))) (segR g' i))
          (fun o k a b => w (ix4 o k a b)) (fun o => b (ix1 o)) o h l := by
  unfold partT
  rw [conv_at]
  congr 1
  funext k h w
  rw [show imgR _ i k h w = _ from field_at _ _ _ _ _ _]
  congr 1
  funext k s
  exact style_at _ _ _ _ _ _ _

/-- The eight results in order: four with the first filter bank, four with the second. -/
def stackT (a b : FVec Ideal S4x64x128x128 .f32) (g h : IVec S4x128x128 32) (fw : FVec Ideal S20x64x64 .f32) (fb : FVec Ideal S20x64 .f32)
    (gw : FVec Ideal S64x64x3x3 .f32) (gb : FVec Ideal S64 .f32) (bw : FVec Ideal S64x64x3x3 .f32) (bb : FVec Ideal S64 .f32) :
    FVec Ideal S8x4x64x128x128 .f32 :=
  concatenate S8x4x64x128x128 0
    [⟨S1x4x64x128x128, broadcastInDim S1x4x64x128x128 ![1, 2, 3, 4] bcast_S4x64x128x128_S1x4x64x128x128_1_2_3_4 (partT a g g fw fb gw gb)⟩,
     ⟨S1x4x64x128x128, broadcastInDim S1x4x64x128x128 ![1, 2, 3, 4] bcast_S4x64x128x128_S1x4x64x128x128_1_2_3_4 (partT b h h fw fb gw gb)⟩,
     ⟨S1x4x64x128x128, broadcastInDim S1x4x64x128x128 ![1, 2, 3, 4] bcast_S4x64x128x128_S1x4x64x128x128_1_2_3_4 (partT b h g fw fb gw gb)⟩,
     ⟨S1x4x64x128x128, broadcastInDim S1x4x64x128x128 ![1, 2, 3, 4] bcast_S4x64x128x128_S1x4x64x128x128_1_2_3_4 (partT a g h fw fb gw gb)⟩,
     ⟨S1x4x64x128x128, broadcastInDim S1x4x64x128x128 ![1, 2, 3, 4] bcast_S4x64x128x128_S1x4x64x128x128_1_2_3_4 (partT a g g fw fb bw bb)⟩,
     ⟨S1x4x64x128x128, broadcastInDim S1x4x64x128x128 ![1, 2, 3, 4] bcast_S4x64x128x128_S1x4x64x128x128_1_2_3_4 (partT b h h fw fb bw bb)⟩,
     ⟨S1x4x64x128x128, broadcastInDim S1x4x64x128x128 ![1, 2, 3, 4] bcast_S4x64x128x128_S1x4x64x128x128_1_2_3_4 (partT b h g fw fb bw bb)⟩,
     ⟨S1x4x64x128x128, broadcastInDim S1x4x64x128x128 ![1, 2, 3, 4] bcast_S4x64x128x128_S1x4x64x128x128_1_2_3_4 (partT a g h fw fb bw bb)⟩]
    concatenates_S1x4x64x128x128_S1x4x64x128x128_S1x4x64x128x128_S1x4x64x128x128_S1x4x64x128x128_S1x4x64x128x128_S1x4x64x128x128_S1x4x64x128x128_S8x4x64x128x128_d0

/-- The result read at an index: which image gives the style, which one the layout, and which filter bank is used. -/
theorem stack_at (a b : FVec Ideal S4x64x128x128 .f32) (g h : IVec S4x128x128 32) (fw : FVec Ideal S20x64x64 .f32) (fb : FVec Ideal S20x64 .f32)
    (gw : FVec Ideal S64x64x3x3 .f32) (gb : FVec Ideal S64 .f32) (bw : FVec Ideal S64x64x3x3 .f32) (bb : FVec Ideal S64 .f32)
    (q : Fin 8) (i : Fin 4) (o : Fin 64) (y l : Fin 128) :
    stackT a b g h fw fb gw gb bw bb (ix5 q i o y l)
      = conv (field (style (imgR (if (q.val + q.val / 2) % 2 = 0 then a else b) i) (segR (if (q.val + q.val / 2) % 2 = 0 then g else h) i)
            (fun s k j => fw (ix3 s k j)) (fun s k => fb (ix2 s k))) (segR (if q.val % 2 = 0 then g else h) i))
          (fun o k a b => (if q.val < 4 then gw else bw) (ix4 o k a b)) (fun o => (if q.val < 4 then gb else bb) (ix1 o)) o y l := by
  pointwise [stackT]
  simp only [part_at]
  fin_cases q <;> rfl

end Cert.ReferenceIdeal.Own

end
-- ==== Proof.Value.RefRun.lean ====
/- The reference runs and leaves the stack of the eight results. -/
module

public import proofs.«01_k».proof.Proof.Value.RefValue
public import proofs.«01_k».proof.Proof.Gen.ReferenceIdeal.Run

@[expose] public section

set_option maxRecDepth 16384

noncomputable section

namespace Cert.ReferenceIdeal.Own

open Cert.ReferenceIdeal Cert.ReferenceIdeal.Gen
open Idealize.ShloMosaic Idealize.ShloMosaic.TcCoe Idealize.SL.Sem Idealize.ShloMosaic.StableHlo

/-- The results' stack, over the arguments' contents in a memory. -/
def resultT (m : (ℓ : Loc nD τ sig) → Buf (Elt Ideal) ℓ) (c : Dev nD) : FVec Ideal S8x4x64x128x128 .f32 :=
  stackT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v656) = resultT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun r h c => ⟨(h c).1.trans rfl, (h c).2⟩) (Cert.ReferenceIdeal.Value.run (F := Ideal) m ρ)

end Cert.ReferenceIdeal.Own

end
-- ==== Proof.Value.Pool.lean ====
/- What the pooling body stores, read at an index. -/
module

public import proofs.«01_k».proof.Proof.KernelIdeal.Pool
public import proofs.«01_k».proof.Proof.Value.Spec

@[expose] public section

set_option maxRecDepth 16384

noncomputable section

namespace Cert.KernelIdeal.Own

open Cert.KernelIdeal Cert.KernelIdeal.Gen
open Idealize.ShloMosaic Idealize.ShloMosaic.TcCoe Idealize.SL.Sem
open Cert.Style

/-- A flat feature block by channel, row and column. -/
abbrev imgB (x : FVec Ideal S1x64x16384 .f32) : Fin 64 → Fin 128 → Fin 128 → EReal := fun k h w => x (ix3 0 k (pix h w))

/-- A flat segmentation block by row and column. -/
abbrev segB (g : IVec S1x1x16384 32) : Fin 128 → Fin 128 → BitVec 32 := fun h w => g (ix3 0 0 (pix h w))

variable (x : FVec Ideal S1x64x16384 .f32) (g : IVec S1x1x16384 32)

theorem total_at (k : Fin 64) (s : Fin 20) : k0_pay3 (F := Ideal) x g (ix2 k s) = total (imgB x) (segB g) k s := by
  unfold total
  pointwise [k0_pay3, k0_pay2]
  rw [sum_pix]
  simp only [ind_signed]

theorem mean_at (k : Fin 64) (s : Fin 20) : k0_pay4 (F := Ideal) x g (ix2 k s) = mean (imgB x) (segB g) k s := by
  unfold mean area
  pointwise [k0_pay4, k0_pay2]
  simp only [total_at, ind_signed, sum_pix]

theorem glob_at (hg : Labelled (segB g)) (k : Fin 64) : k0_pay5 (F := Ideal) x g (ix2 k 0) = whole (imgB x) k := by
  rw [← whole_eq _ _ hg]
  pointwise [k0_pay5]
  simp only [total_at]

theorem fc_at (fw : FVec Ideal S64x20x64 .f32) (k : Fin 64) (s s' : Fin 20) :
    k0_pay6 (F := Ideal) x g fw (ix3 k s s') = if s = s' then ∑ j, fw (ix3 k s j) * mean (imgB x) (segB g) j s' else 0 := by
  pointwise [k0_pay6]
  rw [select_class]
  simp only [mean_at]

theorem first_at (hg : Labelled (segB g)) (fw : FVec Ideal S64x20x64 .f32) (fb : FVec Ideal S64x20 .f32) (w0 : FVec Ideal S64x1x64 .f32)
    (b0 : FVec Ideal S64x1 .f32) (hw : ∀ k j, w0 (ix3 k 0 j) = fw (ix3 k 0 j)) (hb : ∀ k, b0 (ix2 k 0) = fb (ix2 k 0)) (k : Fin 64) (s : Fin 20) :
    k0_pay7 (F := Ideal) (k0_pay4 x g) (k0_pay5 x g) (k0_pay6 x g fw) fb w0 b0 (ix4 0 0 k s)
      = style (imgB x) (segB g) (fun s k j => fw (ix3 k s j)) (fun s k => fb (ix2 k s)) k s := by
  unfold style
  pointwise [k0_pay7]
  rw [select_use]
  simp only [mean_at, glob_at x g hg, fc_at, hw, hb, Finset.sum_ite_eq, Finset.mem_univ, if_true]

/-- The body's second half is its first half on the second image. -/
theorem vecB_eq (x : Vec Ideal S1x64x16384 .f32) (s : Vec Ideal S1x1x16384 .i32) (w : Vec Ideal S64x20x64 .f32) (b : Vec Ideal S64x20 .f32) :
    vecB (F := Ideal) x s w b = vecA x s w b := by
  unfold vecA vecB
  rfl

theorem vecA_at (hg : Labelled (segB g)) (fw : FVec Ideal S64x20x64 .f32) (fb : FVec Ideal S64x20 .f32) (k : Fin 64) (s : Fin 20) :
    vecA (F := Ideal) x g fw fb (ix4 0 0 k s)
      = style (imgB x) (segB g) (fun s k j => fw (ix3 k s j)) (fun s k => fb (ix2 k s)) k s := by
  unfold vecA
  rw [View.ld_unit_zero (by funext a; fin_cases a <;> rfl), View.ld_unit_zero (by funext a; fin_cases a <;> rfl),
    View.ld_unit_zero (by funext a; fin_cases a <;> rfl), View.ld_unit_zero (by funext a; fin_cases a <;> rfl)]
  refine first_at x g hg fw fb _ _ (fun k j => ?_) (fun k => ?_) k s
  · pointwise
  · pointwise

end Cert.KernelIdeal.Own

end
-- ==== Proof.Value.PoolArray.lean ====
/- The class vectors the first pipeline leaves, in terms of the arguments. -/
module

public import proofs.«01_k».proof.Proof.KernelIdeal.Run
public import proofs.«01_k».proof.Proof.Value.Pool
public import Idealize.ShloMosaic.Lib.Pipeline.ValueKit
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)
open Cert.Style

variable (m : (ℓ : Loc nD τ sig) → Buf (Elt Ideal) ℓ) (c : Dev nD)

abbrev arg0 : FVec Ideal S4x64x128x128 .f32 := m ((c : Thread nD τ).loc main_arg0)
abbrev arg1 : FVec Ideal S4x64x128x128 .f32 := m ((c : Thread nD τ).loc main_arg1)
abbrev arg2 : IVec S4x128x128 32 := m ((c : Thread nD τ).loc main_arg2)
abbrev arg3 : IVec S4x128x128 32 := m ((c : Thread nD τ).loc main_arg3)
abbrev arg4 : FVec Ideal S20x64x64 .f32 := m ((c : Thread nD τ).loc main_arg4)
abbrev arg5 : FVec Ideal S20x64 .f32 := m ((c : Thread nD τ).loc main_arg5)

theorem host_v0 : (E0 m c main_v0 : FVec Ideal S4x64x16384 .f32) = shapeCast S4x64x16384 (arg0 m c) shapeCasts_S4x64x128x128_S4x64x16384 := by
  show StableHlo.after hostOps0 (V0 m c) main_v0 = _
  entry_read
  rfl
theorem host_v1 : (E0 m c main_v1 : FVec Ideal S4x64x16384 .f32) = shapeCast S4x64x16384 (arg1 m c) shapeCasts_S4x64x128x128_S4x64x16384 := by
  show StableHlo.after hostOps0 (V0 m c) main_v1 = _
  entry_read
  rfl
theorem host_v2 : (E0 m c main_v2 : IVec S4x1x16384 32) = shapeCast S4x1x16384 (arg2 m c) shapeCasts_S4x128x128_S4x1x16384 := by
  show StableHlo.after hostOps0 (V0 m c) main_v2 = _
  entry_read
  rfl
theorem host_v3 : (E0 m c main_v3 : IVec S4x1x16384 32) = shapeCast S4x1x16384 (arg3 m c) shapeCasts_S4x128x128_S4x1x16384 := by
  show StableHlo.after hostOps0 (V0 m c) main_v3 = _
  entry_read
  rfl
theorem host_v4 : (E0 m c main_v4 : FVec Ideal S64x20x64 .f32) = transpose S64x20x64 [1, 0, 2] (arg4 m c) transposes_S20x64x64_S64x20x64_1_0_2 := by
  show StableHlo.after hostOps0 (V0 m c) main_v4 = _
  entry_read
  rfl
theorem host_v5 : (E0 m c main_v5 : FVec Ideal S64x20 .f32) = transpose S64x20 [1, 0] (arg5 m c) transposes_S20x64_S64x20_1_0 := by
  show StableHlo.after hostOps0 (V0 m c) main_v5 = _
  entry_read
  rfl

theorem idx0 : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![0, 0, 0] ∧ win0_5.index t = ![0, 0] ∧ win0_6.index t = ![0, t.val, 0, 0] :=
  (by decide +kernel : ∀ t : Fin grid0.N, _)

/-- An image of a batch by channel, row and column. -/
abbrev imgK (x : FVec Ideal S4x64x128x128 .f32) (i : Fin 4) : Fin 64 → Fin 128 → Fin 128 → EReal := fun k h w => x (ix4 i k h w)

/-- A segmentation of a batch by row and column. -/
abbrev segK (g : IVec S4x128x128 32) (i : Fin 4) : Fin 128 → Fin 128 → BitVec 32 := fun h w => g (ix3 i h w)

variable (t : Fin cfg0.N) (i : Fin 4)

theorem feat0 (hi : t.val = i.val) (k : Fin 64) (h w : Fin 128) : iblk0 (E0 m) c 0 t (ix3 (0 : Fin 1) k (pix h w)) = arg0 m c (ix4 i k h w) := by
  blk_simp [iblk0]
  rw [host_v0]
  pointwise
  blk_ext [idx0 t]
  all_goals first | omega | (simp only [pix]; omega)

theorem feat1 (hi : t.val = i.val) (k : Fin 64) (h w : Fin 128) : iblk0 (E0 m) c 1 t (ix3 (0 : Fin 1) k (pix h w)) = arg1 m c (ix4 i k h w) := by
  blk_simp [iblk0]
  rw [host_v1]
  pointwise
  blk_ext [idx0 t]
  all_goals first | omega | (simp only [pix]; omega)

theorem segm2 (hi : t.val = i.val) (h w : Fin 128) : iblk0 (E0 m) c 2 t (ix3 (0 : Fin 1) (0 : Fin 1) (pix h w)) = arg2 m c (ix3 i h w) := by
  blk_simp [iblk0]
  rw [host_v2]
  pointwise
  blk_ext [idx0 t]
  all_goals first | omega | (simp only [pix]; omega)

theorem segm3 (hi : t.val = i.val) (h w : Fin 128) : iblk0 (E0 m) c 3 t (ix3 (0 : Fin 1) (0 : Fin 1) (pix h w)) = arg3 m c (ix3 i h w) := by
  blk_simp [iblk0]
  rw [host_v3]
  pointwise
  blk_ext [idx0 t]
  all_goals first | omega | (simp only [pix]; omega)

theorem fcw4 (k : Fin 64) (s : Fin 20) (j : Fin 64) : iblk0 (E0 m) c 4 t (ix3 k s j) = arg4 m c (ix3 s k j) := by
  blk_simp [iblk0]
  rw [host_v4]
  pointwise
  blk_ext [idx0 t]

theorem fcb5 (k : Fin 64) (s : Fin 20) : iblk0 (E0 m) c 5 t (ix2 k s) = arg5 m c (ix2 s k) := by
  blk_simp [iblk0]
  rw [host_v5]
  pointwise
  blk_ext [idx0 t]

/-- Channel `k` of the style vector of class `s`, for image `i` of input `z` (the first or the second). -/
def styles (z : Fin 2) (i : Fin 4) (k : Fin 64) (s : Fin 20) : EReal :=
  style (imgK (if z.val = 0 then arg0 m c else arg1 m c) i) (segK (if z.val = 0 then arg2 m c else arg3 m c) i)
    (fun s k j => arg4 m c (ix3 s k j)) (fun s k => arg5 m c (ix2 s k)) k s

theorem vecA_point (hi : t.val = i.val) (hg : Labelled (segK (arg2 m c) i)) (k : Fin 64) (s : Fin 20) :
    vecA (F := Ideal) (iblk0 (E0 m) c 0 t) (iblk0 (E0 m) c 2 t) (iblk0 (E0 m) c 4 t) (iblk0 (E0 m) c 5 t) (ix4 0 0 k s) = styles m c 0 i k s := by
  have e0 : imgB (iblk0 (E0 m) c 0 t) = imgK (arg0 m c) i := by funext k h w; exact feat0 m c t i hi k h w
  have e2 : segB (iblk0 (E0 m) c 2 t) = segK (arg2 m c) i := by funext h w; exact segm2 m c t i hi h w
  refine (vecA_at (iblk0 (E0 m) c 0 t) (iblk0 (E0 m) c 2 t) (by rw [e2]; exact hg) (iblk0 (E0 m) c 4 t) (iblk0 (E0 m) c 5 t) k s).trans ?_
  rw [e0, e2]
  have e4 : (fun (s : Fin 20) (k j : Fin 64) => (iblk0 (E0 m) c 4 t : FVec Ideal S64x20x64 .f32) (ix3 k s j)) = fun s k j => arg4 m c (ix3 s k j) := by
    funext s k j; exact fcw4 m c t k s j
  have e5 : (fun (s : Fin 20) (k : Fin 64) => (iblk0 (E0 m) c 5 t : FVec Ideal S64x20 .f32) (ix2 k s)) = fun s k => arg5 m c (ix2 s k) := by
    funext s k; exact fcb5 m c t k s
  rw [e4, e5]
  rfl

theorem vecB_point (hi : t.val = i.val) (hg : Labelled (segK (arg3 m c) i)) (k : Fin 64) (s : Fin 20) :
    vecB (F := Ideal) (iblk0 (E0 m) c 1 t) (iblk0 (E0 m) c 3 t) (iblk0 (E0 m) c 4 t) (iblk0 (E0 m) c 5 t) (ix4 0 0 k s) = styles m c 1 i k s := by
  have e0 : imgB (iblk0 (E0 m) c 1 t) = imgK (arg1 m c) i := by funext k h w; exact feat1 m c t i hi k h w
  have e2 : segB (iblk0 (E0 m) c 3 t) = segK (arg3 m c) i := by funext h w; exact segm3 m c t i hi h w
  rw [vecB_eq]
  refine (vecA_at (iblk0 (E0 m) c 1 t) (iblk0 (E0 m) c 3 t) (by rw [e2]; exact hg) (iblk0 (E0 m) c 4 t) (iblk0 (E0 m) c 5 t) k s).trans ?_
  rw [e0, e2]
  have e4 : (fun (s : Fin 20) (k j : Fin 64) => (iblk0 (E0 m) c 4 t : FVec Ideal S64x20x64 .f32) (ix3 k s j)) = fun s k j => arg4 m c (ix3 s k j) := by
    funext s k j; exact fcw4 m c t k s j
  have e5 : (fun (s : Fin 20) (k : Fin 64) => (iblk0 (E0 m) c 5 t : FVec Ideal S64x20 .f32) (ix2 k s)) = fun s k => arg5 m c (ix2 s k) := by
    funext s k; exact fcb5 m c t k s
  rw [e4, e5]
  rfl

/-- What a point of the first pipeline leaves in its output block. -/
theorem pool_point (hi : t.val = i.val) (hA : Labelled (segK (arg2 m c) i)) (hB : Labelled (segK (arg3 m c) i)) (z : Fin 2) (k : Fin 64) (s : Fin 20) :
    poolOut (F := Ideal) (iblk0 (E0 m) c 0 t) (iblk0 (E0 m) c 1 t) (iblk0 (E0 m) c 2 t) (iblk0 (E0 m) c 3 t) (iblk0 (E0 m) c 4 t) (iblk0 (E0 m) c 5 t) (ix4 z 0 k s)
      = styles m c z i k s := by
  unfold poolOut
  canon_tiles x h
  all_goals
    have h2 : k.val = (x 2).val := h2
    have h3 : s.val = (x 3).val := h3
    have e : x = ix4 0 0 k s := by
      funext a
      refine Fin.ext ?_
      fin_cases a
      · show (x 0).val = 0; omega
      · show (x 1).val = 0; omega
      · exact h2.symm
      · exact h3.symm
    subst e
  · have hz : z = 1 := Fin.ext (by have hd : z.val = 1 + 0 := h0; exact hd)
    rw [hz]
    exact vecB_point m c t i hi hB k s
  · have hz : z = 0 := Fin.ext (by have hd : z.val = 0 := h0; exact hd)
    rw [hz]
    exact vecA_point m c t i hi hA k s

/-- The class vectors the first pipeline leaves. -/
theorem vecs_eq (hA : ∀ i, Labelled (segK (arg2 m c) i)) (hB : ∀ i, Labelled (segK (arg3 m c) i)) :
    vecs m c = fun y : S2x4x64x20.Idx => styles m c (y 0) (y 1) (y 2) (y 3) := by
  unfold vecs
  refine (dat0 (E0 m) c).arrAt_eq_of_covers 6 _ (by decide +kernel) fun t _ y => ?_
  blk_simp
  rw [after0_6]
  have ht : t.val < 4 := Nat.lt_of_lt_of_eq t.isLt N_0
  obtain ⟨z, o, k, s, rfl⟩ : ∃ (z : Fin 2) (o : Fin 1) (k : Fin 64) (s : Fin 20), y = ix4 z o k s := ⟨y 0, y 1, y 2, y 3, by blk_ext⟩
  obtain rfl : o = 0 := Subsingleton.elim _ _
  refine (pool_point m c t ⟨t.val, ht⟩ rfl (hA _) (hB _) z k s).trans ?_
  have c0 : ((win0_6.blk t).view.emb (ix4 z (0 : Fin 1) k s) 0 : Fin 2) = z := Fin.ext (by blk_simp [idx0 t] <;> omega)
  have c1 : ((win0_6.blk t).view.emb (ix4 z (0 : Fin 1) k s) 1 : Fin 4) = ⟨t.val, ht⟩ := Fin.ext (by show _ = t.val; blk_simp [idx0 t] <;> omega)
  have c2 : ((win0_6.blk t).view.emb (ix4 z (0 : Fin 1) k s) 2 : Fin 64) = k := Fin.ext (by blk_simp [idx0 t] <;> omega)
  have c3 : ((win0_6.blk t).view.emb (ix4 z (0 : Fin 1) k s) 3 : Fin 20) = s := Fin.ext (by blk_simp [idx0 t] <;> omega)
  exact (congr (congr (congr (congrArg (styles m c) c0) c1) c2) c3).symm

end Cert.KernelIdeal.Own
-- ==== Proof.Value.Conv.lean ====
/- What the convolution body keeps and stores, read at an index. -/
module

public import proofs.«01_k».proof.Proof.KernelIdeal.ConvRun
public import proofs.«01_k».proof.Proof.Value.Pool
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.SL.Sem
open Cert.Style

/-! ## The interior -/

/-- The kernel's remainder by two, on the conditions' numbers. -/
theorem even_cond (n : Fin 4) :
    Scalar.cmpi .eq
      (Scalar.select
        (Scalar.andi
          (Scalar.xori (Scalar.cmpi .slt (Scalar.remsi (BitVec.ofNat 32 n.val) (Scalar.select (Scalar.cmpi .eq 2#32 0#32) 1#32 2#32)) 0#32)
            (Scalar.cmpi .slt (Scalar.select (Scalar.cmpi .eq 2#32 0#32) 1#32 2#32) 0#32))
          (Scalar.cmpi .ne (Scalar.remsi (BitVec.ofNat 32 n.val) (Scalar.select (Scalar.cmpi .eq 2#32 0#32) 1#32 2#32)) 0#32))
        (Scalar.addi (Scalar.remsi (BitVec.ofNat 32 n.val) (Scalar.select (Scalar.cmpi .eq 2#32 0#32) 1#32 2#32))
          (Scalar.select (Scalar.cmpi .eq 2#32 0#32) 1#32 2#32))
        (Scalar.remsi (BitVec.ofNat 32 n.val) (Scalar.select (Scalar.cmpi .eq 2#32 0#32) 1#32 2#32)))
      0#32 = BitVec.ofBool (decide (n.val % 2 = 0)) := by
  revert n; decide

theorem spread_pay (i : grid1.Coords) (g0 g1 : IVec S1x1x16384 32) (v : FVec Ideal S1x1x64x20 .f32) (h w : Fin 128) (k : Fin 64) :
    k1_pay5 (F := Ideal) i g0 g1 v (ix3 h w k)
      = field (fun k s => v (ix4 0 0 k s)) (segB (if (i 0).val % 2 = 0 then g0 else g1)) k h w := by
  have e := even_cond (i 0)
  unfold k1_pay5 field
  simp only [e]
  by_cases hp : (i 0).val % 2 = 0
  · simp only [hp, decide_true, if_true]
    pointwise
    simp only [ind_signed]
    exact Finset.sum_congr rfl fun s _ => mul_comm _ _
  · have sel : ∀ a c : IVec S1x16384 32, Scalar.select (BitVec.ofBool false) a c = c := fun _ _ => rfl
    simp only [hp, decide_false, if_false, sel]
    pointwise
    simp only [ind_signed]
    exact Finset.sum_congr rfl fun s _ => mul_comm _ _

theorem spread_at (i : grid1.Coords) (g0 g1 : IVec S1x1x16384 32) (v : FVec Ideal S1x1x64x20 .f32) (h w : Fin 128) (k : Fin 64) :
    spread (F := Ideal) i g0 g1 v (ix3 h w k)
      = field (fun k s => v (ix4 0 0 k s)) (segB (if (i 0).val % 2 = 0 then g0 else g1)) k h w := by
  unfold spread
  rw [View.ld_unit_zero (by funext a; fin_cases a <;> rfl), View.ld_unit_zero (by funext a; fin_cases a <;> rfl),
    View.ld_unit_zero (by funext a; fin_cases a <;> rfl)]
  exact spread_pay i g0 g1 v h w k

theorem padded_at (g : FVec Ideal S128x128x64 .f32) (h w : Fin 130) (k : Fin 64) :
    padded g (ix3 h w k) = bordered (fun h w => g (ix3 h w k)) h.val w.val := by
  unfold padded bordered
  by_cases p : (1 ≤ h.val ∧ h.val - 1 < 128) ∧ 1 ≤ w.val ∧ w.val - 1 < 128
  · rw [dif_pos p]
    have e : (ix3 h w k : S130x130x64.Idx) = rInt.emb (ix3 ⟨h.val - 1, p.1.2⟩ ⟨w.val - 1, p.2.2⟩ k) := by
      funext a
      refine Fin.ext ?_
      rw [ValueKit.rect_emb_unit_val]
      fin_cases a
      · show h.val = 1 + (h.val - 1); omega
      · show w.val = 1 + (w.val - 1); omega
      · show k.val = 0 + k.val; omega
    rw [e, View.canon_cons_emb]
  · rw [dif_neg p, View.canon_cons_of_not_mem, View.canon_cons_unit_zero (by funext a; fin_cases a <;> rfl)]
    · pointwise [k1_pay4]
    · rw [Rect.mem_set_unit]
      intro hm
      have h0 : 1 ≤ h.val ∧ h.val < 1 + 128 := hm 0
      have h1 : 1 ≤ w.val ∧ w.val < 1 + 128 := hm 1
      omega

/-! ## The taps -/

variable (A0 A1 A2 A3 A4 A5 A6 A7 A8 : FVec Ideal S32x128x64 .f32) (W0 W1 W2 W3 W4 W5 W6 W7 W8 : FVec Ideal S1x64x128 .f32)
  (b : FVec Ideal S1x128 .f32)

def tapsOf : FVec Ideal S4096x128 .f32 :=
  k1_pay10 (k1_pay7 (k1_pay6 A0 W0 A1 W1) A2 W2 A3 W3 A4 W4) (k1_pay8 A5) (k1_pay9 W5) (constant S4096x128 .f32 0x00000000#32) A6 W6 A7 W7 A8 W8 b

theorem tapsOf_at (y : Fin 32) (l : Fin 128) (o : Fin 128) :
    tapsOf A0 A1 A2 A3 A4 A5 A6 A7 A8 W0 W1 W2 W3 W4 W5 W6 W7 W8 b (ix2 ⟨y.val * 128 + l.val, by omega⟩ o)
      = (∑ k, A0 (ix3 y l k) * W0 (ix3 0 k o)) + (∑ k, A1 (ix3 y l k) * W1 (ix3 0 k o)) + (∑ k, A2 (ix3 y l k) * W2 (ix3 0 k o))
        + (∑ k, A3 (ix3 y l k) * W3 (ix3 0 k o)) + (∑ k, A4 (ix3 y l k) * W4 (ix3 0 k o)) + (∑ k, A5 (ix3 y l k) * W5 (ix3 0 k o))
        + (∑ k, A6 (ix3 y l k) * W6 (ix3 0 k o)) + (∑ k, A7 (ix3 y l k) * W7 (ix3 0 k o)) + (∑ k, A8 (ix3 y l k) * W8 (ix3 0 k o))
        + b (ix2 0 o) := by
  pointwise [tapsOf, k1_pay6, k1_pay7, k1_pay8, k1_pay9, k1_pay10]

theorem low_at (T : FVec Ideal S4096x128 .f32) (o : Fin 64) (y : Fin 32) (l : Fin 128) (c : Fin 128) (hc : c.val = o.val) :
    k1_pay2 (F := Ideal) T (Scalar.ofBits .f32 0x00000000#32) (ix6 0 0 0 o y l) = max (T (ix2 ⟨y.val * 128 + l.val, by omega⟩ c)) 0 := by
  have e : c = ⟨o.val, o.isLt.trans (by decide)⟩ := Fin.ext hc
  rw [e]
  pointwise [k1_pay2, k1_pay1]

theorem high_at (T : FVec Ideal S4096x128 .f32) (o : Fin 64) (y : Fin 32) (l : Fin 128) (c : Fin 128) (hc : c.val = 64 + o.val) :
    k1_pay3 (F := Ideal) T (Scalar.ofBits .f32 0x00000000#32) (ix6 0 0 0 o y l) = max (T (ix2 ⟨y.val * 128 + l.val, by omega⟩ c)) 0 := by
  have e : c = ⟨64 + o.val, Nat.add_lt_add_left o.isLt 64⟩ := Fin.ext hc
  rw [e]
  pointwise [k1_pay3, k1_pay1]

theorem off_row (n : Fin 4) (r : Fin 3) :
    (Scalar.indexCast (Scalar.addi (Scalar.muli (BitVec.ofNat 32 n.val) 32#32) (BitVec.ofNat 32 r.val)) : Index).toNat = n.val * 32 + r.val := by
  revert n r; decide

/-- A tap's window of the scratch. -/
theorem window_at (g : FVec Ideal S128x128x64 .f32) (off : Fin 3 → ℕ) (inb) (a c : ℕ) (e : off = ![a, c, 0])
    (y : Fin 32) (l : Fin 128) (k : Fin 64) :
    View.ld (padded g) (Rect.unit (s := S130x130x64) off S32x128x64.size inb) (ix3 y l k)
      = bordered (fun h w => g (ix3 h w k)) (a + y.val) (c + l.val) := by
  subst e
  have h0 : a + 32 ≤ 130 := inb 0
  have h1 : c + 128 ≤ 130 := inb 1
  refine (View.ld_unit_apply_of _ _ _ _ _ (ix3 ⟨a + y.val, by omega⟩ ⟨c + l.val, by omega⟩ k) fun a => ?_).trans (padded_at g _ _ k)
  fin_cases a
  · rfl
  · rfl
  · show k.val = 0 + k.val; omega

variable (g : FVec Ideal S128x128x64 .f32) (i : grid1.Coords) (r : Fin 3) (y : Fin 32) (l : Fin 128) (k : Fin 64)

theorem left_at : View.ld (padded g) (rL i r) (ix3 y l k) = bordered (fun h w => g (ix3 h w k)) ((i 2).val * 32 + r.val + y.val) (0 + l.val) :=
  window_at g _ _ _ _ (by rw [← off_row (i 2) r]; rfl) y l k

theorem mid_at : View.ld (padded g) (rC i r) (ix3 y l k) = bordered (fun h w => g (ix3 h w k)) ((i 2).val * 32 + r.val + y.val) (1 + l.val) :=
  window_at g _ _ _ _ (by rw [← off_row (i 2) r]; rfl) y l k

theorem right_at : View.ld (padded g) (rR i r) (ix3 y l k) = bordered (fun h w => g (ix3 h w k)) ((i 2).val * 32 + r.val + y.val) (2 + l.val) :=
  window_at g _ _ _ _ (by rw [← off_row (i 2) r]; rfl) y l k

theorem weight_at (w : Vec Ideal S9x64x128 .f32) (off : Fin 3 → ℕ) (inb) (a : Fin 9) (e : off = ![a.val, 0, 0]) (k : Fin 64) (o : Fin 128) :
    View.ld w (Rect.unit (s := S9x64x128) off S1x64x128.size inb) (ix3 0 k o) = w (ix3 a k o) := by
  subst e
  refine View.ld_unit_apply_of _ _ _ _ _ (ix3 a k o) fun d => ?_
  fin_cases d
  · rfl
  · show k.val = 0 + k.val; omega
  · show o.val = 0 + o.val; omega

/-- The convolution at output row `y` of a row block, out of the interior. -/
theorem taps_at (w : Vec Ideal S9x64x128 .f32) (bias : Vec Ideal S1x128 .f32) (o : Fin 128) (o' : Fin 64) (f : Fin 64 → Fin 64 → Fin 3 → Fin 3 → EReal)
    (hf : ∀ k (a c : Fin 3), w (ix3 ⟨a.val * 3 + c.val, by omega⟩ k o) = f o' k a c) :
    max (taps (F := Ideal) i w bias (padded g) (ix2 ⟨y.val * 128 + l.val, by omega⟩ o)) 0
      = conv (fun k h w => g (ix3 h w k)) f (fun _ => bias (ix2 0 o)) o' ⟨(i 2).val * 32 + y.val, by have := (i 2).isLt; have : (i 2).val < 4 := this; omega⟩ l := by
  have hr (r : ℕ) : (i 2).val * 32 + r + y.val = r + ((i 2).val * 32 + y.val) := by omega
  have e := tapsOf_at (View.ld (padded g) (rL i 0)) (View.ld (padded g) (rC i 0)) (View.ld (padded g) (rR i 0))
    (View.ld (padded g) (rL i 1)) (View.ld (padded g) (rC i 1)) (View.ld (padded g) (rR i 1))
    (View.ld (padded g) (rL i 2)) (View.ld (padded g) (rC i 2)) (View.ld (padded g) (rR i 2))
    (View.ld w rT0) (View.ld w rT1) (View.ld w rT2) (View.ld w rT3) (View.ld w rT4) (View.ld w rT5) (View.ld w rT6) (View.ld w rT7) (View.ld w rT8)
    (View.ld bias rBias) y l o
  refine (congrArg (max · (0 : EReal)) e).trans ?_
  unfold conv tap
  simp only [left_at, mid_at, right_at, hr]
  have hw (a c : Fin 3) (off : Fin 3 → ℕ) (inb) (e : off = ![a.val * 3 + c.val, 0, 0]) (k : Fin 64) :
      View.ld w (Rect.unit (s := S9x64x128) off S1x64x128.size inb) (ix3 0 k o) = f o' k a c :=
    (weight_at w off inb ⟨a.val * 3 + c.val, by omega⟩ e k o).trans (hf k a c)
  rw [View.ld_unit_zero (by funext a; fin_cases a <;> rfl)]
  have w0 (k : Fin 64) : View.ld w rT0 (ix3 0 k o) = f o' k 0 0 := hw 0 0 _ _ rfl k
  have w1 (k : Fin 64) : View.ld w rT1 (ix3 0 k o) = f o' k 0 1 := hw 0 1 _ _ rfl k
  have w2 (k : Fin 64) : View.ld w rT2 (ix3 0 k o) = f o' k 0 2 := hw 0 2 _ _ rfl k
  have w3 (k : Fin 64) : View.ld w rT3 (ix3 0 k o) = f o' k 1 0 := hw 1 0 _ _ rfl k
  have w4 (k : Fin 64) : View.ld w rT4 (ix3 0 k o) = f o' k 1 1 := hw 1 1 _ _ rfl k
  have w5 (k : Fin 64) : View.ld w rT5 (ix3 0 k o) = f o' k 1 2 := hw 1 2 _ _ rfl k
  have w6 (k : Fin 64) : View.ld w rT6 (ix3 0 k o) = f o' k 2 0 := hw 2 0 _ _ rfl k
  have w7 (k : Fin 64) : View.ld w rT7 (ix3 0 k o) = f o' k 2 1 := hw 2 1 _ _ rfl k
  have w8 (k : Fin 64) : View.ld w rT8 (ix3 0 k o) = f o' k 2 2 := hw 2 2 _ _ rfl k
  simp only [w0, w1, w2, w3, w4, w5, w6, w7, w8]
  simp only [mul_comm (f _ _ _ _)]
  rfl

/-- The two halves of the output block. -/
theorem convOut_at (w : FVec Ideal S9x64x128 .f32) (bias : FVec Ideal S1x128 .f32) (xs : FVec Ideal S130x130x64 .f32) (d : Fin 2) (o : Fin 64) :
    convOut (F := Ideal) i w bias xs (ix6 d 0 0 o y l)
      = max (taps (F := Ideal) i w bias xs (ix2 ⟨y.val * 128 + l.val, by omega⟩ ⟨d.val * 64 + o.val, by omega⟩)) 0 := by
  unfold convOut
  canon_tiles x h
  all_goals
    have h3 : o.val = (x 3).val := h3
    have h4 : y.val = (x 4).val := h4
    have h5 : l.val = (x 5).val := h5
    have e : x = ix6 0 0 0 o y l := by
      funext a
      refine Fin.ext ?_
      fin_cases a
      · show (x 0).val = 0; omega
      · show (x 1).val = 0; omega
      · show (x 2).val = 0; omega
      · exact h3.symm
      · exact h4.symm
      · exact h5.symm
    subst e
  · exact high_at (taps i w bias xs) o y l ⟨d.val * 64 + o.val, by omega⟩ (by show d.val * 64 + o.val = 64 + o.val; have hd : d.val = 1 + 0 := h0; omega)
  · exact low_at (taps i w bias xs) o y l ⟨d.val * 64 + o.val, by omega⟩ (by show d.val * 64 + o.val = o.val; have hd : d.val = 0 := h0; omega)

end Cert.KernelIdeal.Own
-- ==== Proof.Value.MapArray.lean ====
/- The filtered maps the second pipeline leaves, in terms of the arguments. -/
module

public import proofs.«01_k».proof.Proof.Value.PoolArray
public import proofs.«01_k».proof.Proof.Value.Conv

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)
open Cert.Style

variable (m : (ℓ : Loc nD τ sig) → Buf (Elt Ideal) ℓ) (c : Dev nD)

abbrev arg6 : FVec Ideal S64x64x3x3 .f32 := m ((c : Thread nD τ).loc main_arg6)
abbrev arg7 : FVec Ideal S64 .f32 := m ((c : Thread nD τ).loc main_arg7)
abbrev arg8 : FVec Ideal S64x64x3x3 .f32 := m ((c : Thread nD τ).loc main_arg8)
abbrev arg9 : FVec Ideal S64 .f32 := m ((c : Thread nD τ).loc main_arg9)

theorem mid_v2 : (E1 m c main_v2 : IVec S4x1x16384 32) = shapeCast S4x1x16384 (arg2 m c) shapeCasts_S4x128x128_S4x1x16384 := by
  show StableHlo.after hostOps1 (Function.update (V1 m c) main_v6 (vecs m c)) main_v2 = _
  entry_read
  exact host_v2 m c
theorem mid_v3 : (E1 m c main_v3 : IVec S4x1x16384 32) = shapeCast S4x1x16384 (arg3 m c) shapeCasts_S4x128x128_S4x1x16384 := by
  show StableHlo.after hostOps1 (Function.update (V1 m c) main_v6 (vecs m c)) main_v3 = _
  entry_read
  exact host_v3 m c
theorem mid_v6 : (E1 m c main_v6 : FVec Ideal S2x4x64x20 .f32) = vecs m c := by
  show StableHlo.after hostOps1 (Function.update (V1 m c) main_v6 (vecs m c)) main_v6 = _
  entry_read
  exact Function.update_self ..
theorem late_v9 (σ : Valuation τ sig (Elt Ideal)) (x y : FVec Ideal S64x64x3x3 .f32) (hx : σ main_arg6 = x) (hy : σ main_arg8 = y) :
    (StableHlo.after hostOps1 σ main_v9 : FVec Ideal S9x64x128 .f32) = shapeCast S9x64x128 (transpose S3x3x64x128 [2, 3, 1, 0]
      (concatenate S128x64x3x3 0 [⟨S64x64x3x3, x⟩, ⟨S64x64x3x3, y⟩] concatenates_S64x64x3x3_S64x64x3x3_S128x64x3x3_d0)
      transposes_S128x64x3x3_S3x3x64x128_2_3_1_0) shapeCasts_S3x3x64x128_S9x64x128 := by
  subst hx hy
  entry_read
  rfl

theorem late_v11 (σ : Valuation τ sig (Elt Ideal)) (x y : FVec Ideal S64 .f32) (hx : σ main_arg7 = x) (hy : σ main_arg9 = y) :
    (StableHlo.after hostOps1 σ main_v11 : FVec Ideal S1x128 .f32) = broadcastInDim S1x128 ![1] bcast_S128_S1x128_1
      (concatenate S128 0 [⟨S64, x⟩, ⟨S64, y⟩] concatenates_S64_S64_S128_d0) := by
  subst hx hy
  entry_read
  rfl

theorem early (r : Ref sig .tc) (h : r ≠ main_v6) (h' : r ∉ hostOps0_W) :
    Function.update (V1 m c) main_v6 (vecs m c) r = m ((c : Thread nD τ).loc r) :=
  (Function.update_of_ne (StableHlo.devRef_ne_of_ne h) _ _).trans (V1_of m c r h')

/-- The nine taps' weights, both convolutions' channels side by side. -/
theorem weight_cell (k : Fin 64) (d : Fin 2) (o : Fin 64) (a b : Fin 3) :
    (E1 m c main_v9 : FVec Ideal S9x64x128 .f32) (ix3 ⟨a.val * 3 + b.val, by omega⟩ k ⟨d.val * 64 + o.val, by omega⟩)
      = (if d.val = 0 then arg6 m c else arg8 m c) (ix4 o k a b) := by
  rw [show (E1 m c main_v9 : FVec Ideal S9x64x128 .f32) = _ from
    late_v9 _ _ _ (early m c main_arg6 (by decide) (by decide)) (early m c main_arg8 (by decide) (by decide))]
  pointwise
  by_cases hd : d.val = 0
  · rw [dif_pos (by omega), if_pos hd]
    blk_ext
  · rw [dif_neg (by omega), if_neg hd]
    blk_ext

theorem bias_cell (d : Fin 2) (o : Fin 64) :
    (E1 m c main_v11 : FVec Ideal S1x128 .f32) (ix2 0 ⟨d.val * 64 + o.val, by omega⟩) = (if d.val = 0 then arg7 m c else arg9 m c) (ix1 o) := by
  rw [show (E1 m c main_v11 : FVec Ideal S1x128 .f32) = _ from
    late_v11 _ _ _ (early m c main_arg7 (by decide) (by decide)) (early m c main_arg9 (by decide) (by decide))]
  pointwise
  by_cases hd : d.val = 0
  · rw [dif_pos (by omega), if_pos hd]
    blk_ext
  · rw [dif_neg (by omega), if_neg hd]
    blk_ext

theorem idx1 : ∀ t : Fin cfg1.N, win1_0.index t = ![t.val / 4 % 4, 0, 0] ∧ win1_1.index t = ![t.val / 4 % 4, 0, 0]
    ∧ win1_2.index t = ![(t.val / 16 % 2 + t.val / 16 / 2) % 2, t.val / 4 % 4, 0, 0] ∧ win1_3.index t = ![0, 0, 0] ∧ win1_4.index t = ![0, 0]
    ∧ win1_5.index t = ![0, t.val / 16, t.val / 4 % 4, 0, t.val % 4, 0] :=
  (by decide +kernel : ∀ t : Fin grid1.N, _)

variable (t : Fin cfg1.N) (i : Fin 4)

theorem label2 (hi : t.val / 4 % 4 = i.val) (h w : Fin 128) : iblk1 (E1 m) c 0 t (ix3 (0 : Fin 1) (0 : Fin 1) (pix h w)) = arg2 m c (ix3 i h w) := by
  blk_simp [iblk1]
  rw [mid_v2]
  pointwise
  blk_ext [idx1 t]
  all_goals first | omega | (simp only [pix]; omega)

theorem label3 (hi : t.val / 4 % 4 = i.val) (h w : Fin 128) : iblk1 (E1 m) c 1 t (ix3 (0 : Fin 1) (0 : Fin 1) (pix h w)) = arg3 m c (ix3 i h w) := by
  blk_simp [iblk1]
  rw [mid_v3]
  pointwise
  blk_ext [idx1 t]
  all_goals first | omega | (simp only [pix]; omega)

theorem vec_cell (hA : ∀ i, Labelled (segK (arg2 m c) i)) (hB : ∀ i, Labelled (segK (arg3 m c) i)) (z : Fin 2)
    (hz : (t.val / 16 % 2 + t.val / 16 / 2) % 2 = z.val) (hi : t.val / 4 % 4 = i.val) (k : Fin 64) (s : Fin 20) :
    iblk1 (E1 m) c 2 t (ix4 (0 : Fin 1) (0 : Fin 1) k s) = styles m c z i k s := by
  blk_simp [iblk1]
  rw [mid_v6, vecs_eq m c hA hB]
  have c0 : ((win1_2.blk t).view.emb (ix4 (0 : Fin 1) (0 : Fin 1) k s) 0 : Fin 2) = z := Fin.ext (by blk_simp [idx1 t] <;> omega)
  have c1 : ((win1_2.blk t).view.emb (ix4 (0 : Fin 1) (0 : Fin 1) k s) 1 : Fin 4) = i := Fin.ext (by blk_simp [idx1 t] <;> omega)
  have c2 : ((win1_2.blk t).view.emb (ix4 (0 : Fin 1) (0 : Fin 1) k s) 2 : Fin 64) = k := Fin.ext (by blk_simp [idx1 t] <;> omega)
  have c3 : ((win1_2.blk t).view.emb (ix4 (0 : Fin 1) (0 : Fin 1) k s) 3 : Fin 20) = s := Fin.ext (by blk_simp [idx1 t] <;> omega)
  exact congr (congr (congr (congrArg (styles m c) c0) c1) c2) c3

theorem weights_whole (a : Fin 9) (k : Fin 64) (o : Fin 128) : iblk1 (E1 m) c 3 t (ix3 a k o) = (E1 m c main_v9 : FVec Ideal S9x64x128 .f32) (ix3 a k o) := by
  blk_simp [iblk1]
  blk_ext [idx1 t]

theorem bias_whole (o : Fin 128) : iblk1 (E1 m) c 4 t (ix2 (0 : Fin 1) o) = (E1 m c main_v11 : FVec Ideal S1x128 .f32) (ix2 0 o) := by
  blk_simp [iblk1]
  blk_ext [idx1 t]

/-- Channel `o` of convolution `d`, pair `p` of a style source and a target map, image `i`. -/
def result (d : Fin 2) (p i : Fin 4) (o : Fin 64) (h l : Fin 128) : EReal :=
  conv (field (styles m c ⟨(p.val % 2 + p.val / 2) % 2, Nat.mod_lt _ (by decide)⟩ i) (segK (if p.val % 2 = 0 then arg2 m c else arg3 m c) i))
    (fun o k a b => (if d.val = 0 then arg6 m c else arg8 m c) (ix4 o k a b)) (fun o => (if d.val = 0 then arg7 m c else arg9 m c) (ix1 o)) o h l

theorem coord1 : (grid1.coords t 0).val = t.val / 16 % 4 ∧ (grid1.coords t 1).val = t.val / 4 % 4 ∧ (grid1.coords t 2).val = t.val / 1 % 4 :=
  ⟨Pipeline.Grid.coords_val t 0 (by decide) rfl, Pipeline.Grid.coords_val t 1 (by decide) rfl, Pipeline.Grid.coords_val t 2 (by decide) rfl⟩

/-- The scratch's interior at a point: the class vectors spread over the target map. -/
theorem inner_at (hA : ∀ i, Labelled (segK (arg2 m c) i)) (hB : ∀ i, Labelled (segK (arg3 m c) i)) (p : Fin 4)
    (hp : t.val / 16 = p.val) (hi : t.val / 4 % 4 = i.val) (h w : Fin 128) (k : Fin 64) :
    inner (E1 m) c t (ix3 h w k)
      = field (styles m c ⟨(p.val % 2 + p.val / 2) % 2, Nat.mod_lt _ (by decide)⟩ i) (segK (if p.val % 2 = 0 then arg2 m c else arg3 m c) i) k h w := by
  have hb : (base t).val = t.val / 4 * 4 := rfl
  have hc : (grid1.coords (base t) 0).val = p.val := by rw [(coord1 (base t)).1]; omega
  unfold inner
  refine (spread_at (grid1.coords (base t)) (iblk1 (E1 m) c 0 (base t)) (iblk1 (E1 m) c 1 (base t)) (iblk1 (E1 m) c 2 (base t)) h w k).trans ?_
  have ev : (fun (k : Fin 64) (s : Fin 20) => (iblk1 (E1 m) c 2 (base t) : FVec Ideal S1x1x64x20 .f32) (ix4 0 0 k s))
      = styles m c ⟨(p.val % 2 + p.val / 2) % 2, Nat.mod_lt _ (by decide)⟩ i := by
    funext k s
    exact vec_cell m c (base t) i hA hB _ (by show _ = (p.val % 2 + p.val / 2) % 2; rw [hb]; omega) (by rw [hb]; omega) k s
  have e2 : segB (iblk1 (E1 m) c 0 (base t)) = segK (arg2 m c) i := by
    funext h w; exact label2 m c (base t) i (by rw [hb]; omega) h w
  have e3 : segB (iblk1 (E1 m) c 1 (base t)) = segK (arg3 m c) i := by
    funext h w; exact label3 m c (base t) i (by rw [hb]; omega) h w
  rw [ev, hc]
  by_cases q : p.val % 2 = 0
  · rw [if_pos q, if_pos q, e2]
  · rw [if_neg q, if_neg q, e3]

/-- What a point of the second pipeline leaves in its output block. -/
theorem map_point (hA : ∀ i, Labelled (segK (arg2 m c) i)) (hB : ∀ i, Labelled (segK (arg3 m c) i)) (p r : Fin 4)
    (hp : t.val / 16 = p.val) (hi : t.val / 4 % 4 = i.val) (hr : t.val % 4 = r.val) (d : Fin 2) (o : Fin 64) (y : Fin 32) (l : Fin 128) :
    convOut (F := Ideal) (grid1.coords t) (iblk1 (E1 m) c 3 t) (iblk1 (E1 m) c 4 t) (padded (inner (E1 m) c t)) (ix6 d 0 0 o y l)
      = result m c d p i o ⟨r.val * 32 + y.val, by omega⟩ l := by
  refine (convOut_at (grid1.coords t) y l (iblk1 (E1 m) c 3 t) (iblk1 (E1 m) c 4 t) (padded (inner (E1 m) c t)) d o).trans ?_
  refine (taps_at (inner (E1 m) c t) (grid1.coords t) y l (iblk1 (E1 m) c 3 t) (iblk1 (E1 m) c 4 t) ⟨d.val * 64 + o.val, by omega⟩ o
    (fun o k a b => (if d.val = 0 then arg6 m c else arg8 m c) (ix4 o k a b)) fun k a b => ?_).trans ?_
  · exact (weights_whole m c t _ k _).trans (weight_cell m c k d o a b)
  · have eb : (iblk1 (E1 m) c 4 t : FVec Ideal S1x128 .f32) (ix2 0 ⟨d.val * 64 + o.val, by omega⟩) = (if d.val = 0 then arg7 m c else arg9 m c) (ix1 o) :=
      (bias_whole m c t _).trans (bias_cell m c d o)
    have ei : (fun (k : Fin 64) (h w : Fin 128) => inner (E1 m) c t (ix3 h w k))
        = field (styles m c ⟨(p.val % 2 + p.val / 2) % 2, Nat.mod_lt _ (by decide)⟩ i) (segK (if p.val % 2 = 0 then arg2 m c else arg3 m c) i) := by
      funext k h w; exact inner_at m c t i hA hB p hp hi h w k
    have hc : (grid1.coords t 2).val = r.val := by rw [(coord1 t).2.2]; omega
    rw [ei]
    unfold result conv
    simp only [hc, eb]

/-- The filtered maps the second pipeline leaves. -/
theorem maps_eq (hA : ∀ i, Labelled (segK (arg2 m c) i)) (hB : ∀ i, Labelled (segK (arg3 m c) i)) :
    maps m c = fun y : S2x4x4x64x128x128.Idx => result m c (y 0) (y 1) (y 2) (y 3) (y 4) (y 5) := by
  unfold maps
  refine (dat1 (E1 m) c).arrAt_eq_of_covers 5 _ (by decide +kernel) fun t _ y => ?_
  blk_simp
  rw [after1_5]
  have ht : t.val < 64 := Nat.lt_of_lt_of_eq t.isLt N_1
  obtain ⟨d, u, v, o, h, l, rfl⟩ : ∃ (d : Fin 2) (u v : Fin 1) (o : Fin 64) (h : Fin 32) (l : Fin 128), y = ix6 d u v o h l :=
    ⟨y 0, y 1, y 2, y 3, y 4, y 5, by blk_ext⟩
  obtain rfl : u = 0 := Subsingleton.elim _ _
  obtain rfl : v = 0 := Subsingleton.elim _ _
  refine (map_point m c t ⟨t.val / 4 % 4, by omega⟩ hA hB ⟨t.val / 16, by omega⟩ ⟨t.val % 4, by omega⟩ rfl rfl rfl d o h l).trans ?_
  have c0 : ((win1_5.blk t).view.emb (ix6 d (0 : Fin 1) (0 : Fin 1) o h l) 0 : Fin 2) = d := Fin.ext (by blk_simp [idx1 t] <;> omega)
  have c1 : ((win1_5.blk t).view.emb (ix6 d (0 : Fin 1) (0 : Fin 1) o h l) 1 : Fin 4) = (⟨t.val / 16, by omega⟩ : Fin 4) :=
    Fin.ext (by show _ = t.val / 16; blk_simp [idx1 t] <;> omega)
  have c2 : ((win1_5.blk t).view.emb (ix6 d (0 : Fin 1) (0 : Fin 1) o h l) 2 : Fin 4) = (⟨t.val / 4 % 4, by omega⟩ : Fin 4) :=
    Fin.ext (by show _ = t.val / 4 % 4; blk_simp [idx1 t] <;> omega)
  have c3 : ((win1_5.blk t).view.emb (ix6 d (0 : Fin 1) (0 : Fin 1) o h l) 3 : Fin 64) = o := Fin.ext (by blk_simp [idx1 t] <;> omega)
  have c4 : ((win1_5.blk t).view.emb (ix6 d (0 : Fin 1) (0 : Fin 1) o h l) 4 : Fin 128) = (⟨t.val % 4 * 32 + h.val, by omega⟩ : Fin 128) :=
    Fin.ext (by show _ = t.val % 4 * 32 + h.val; blk_simp [idx1 t] <;> omega)
  have c5 : ((win1_5.blk t).view.emb (ix6 d (0 : Fin 1) (0 : Fin 1) o h l) 5 : Fin 128) = l := Fin.ext (by blk_simp [idx1 t] <;> omega)
  exact (congr (congr (congr (congr (congr (congrArg (result m c) c0) c1) c2) c3) c4) c5).symm

end Cert.KernelIdeal.Own
-- ==== Proof.Value.KernelRun.lean ====
/- The kernel runs and leaves the reference's stack of results. -/
module

public import proofs.«01_k».proof.Proof.Value.MapArray
public import proofs.«01_k».proof.Proof.Value.RefValue

@[expose] public section

set_option maxRecDepth 16384

noncomputable section

namespace Cert.KernelIdeal.Own

open Cert.KernelIdeal Cert.KernelIdeal.Gen
open Idealize.ShloMosaic Idealize.ShloMosaic.TcCoe Idealize.SL.Sem
open Cert.Style

variable (m : (ℓ : Loc nD τ sig) → Buf (Elt Ideal) ℓ) (ρ : Dev nD → PrngReg) (c : Dev nD)

theorem late_v13 : (V5 m (outs m) c main_v13 : FVec Ideal S8x4x64x128x128 .f32)
    = shapeCast S8x4x64x128x128 (maps m c : FVec Ideal S2x4x4x64x128x128 .f32) shapeCasts_S2x4x4x64x128x128_S8x4x64x128x128 := by
  have e : V4 m (outs m) c main_v12 = maps m c := by
    unfold V4
    rw [Function.update_self, outs_maps]
  rw [← e]
  show StableHlo.after hostOps2 (V4 m (outs m) c) main_v13 = _
  entry_read
  rfl

/-- The two outermost grid coordinates, read as one. -/
theorem stacked_at (x : FVec Ideal S2x4x4x64x128x128 .f32) (q : Fin 8) (i : Fin 4) (o : Fin 64) (y l : Fin 128) :
    shapeCast S8x4x64x128x128 x shapeCasts_S2x4x4x64x128x128_S8x4x64x128x128 (ix5 q i o y l)
      = x (ix6 (⟨q.val / 4, by omega⟩ : Fin 2) (⟨q.val % 4, by omega⟩ : Fin 4) i o y l) := by
  pointwise

theorem parity_vec : ∀ q : Fin 8, (q.val % 4 % 2 + q.val % 4 / 2) % 2 = 0 ↔ (q.val + q.val / 2) % 2 = 0 := by decide

theorem parity_map : ∀ q : Fin 8, q.val % 4 % 2 = 0 ↔ q.val % 2 = 0 := by decide

theorem first_half : ∀ q : Fin 8, q.val / 4 = 0 ↔ q.val < 4 := by decide

theorem result_at (q : Fin 8) (i : Fin 4) (o : Fin 64) (y l : Fin 128) :
    result m c ⟨q.val / 4, by omega⟩ ⟨q.val % 4, by omega⟩ i o y l
      = Cert.ReferenceIdeal.Own.stackT (arg0 m c) (arg1 m c) (arg2 m c) (arg3 m c) (arg4 m c) (arg5 m c) (arg6 m c) (arg7 m c) (arg8 m c) (arg9 m c)
        (ix5 q i o y l) := by
  refine Eq.trans ?_ (Cert.ReferenceIdeal.Own.stack_at (arg0 m c) (arg1 m c) (arg2 m c) (arg3 m c) (arg4 m c) (arg5 m c) (arg6 m c) (arg7 m c) (arg8 m c) (arg9 m c) q i o y l).symm
  have e1 : ((q.val % 4 % 2 + q.val % 4 / 2) % 2 = 0) = ((q.val + q.val / 2) % 2 = 0) := propext (parity_vec q)
  have e2 : (q.val % 4 % 2 = 0) = (q.val % 2 = 0) := propext (parity_map q)
  have e3 : (q.val / 4 = 0) = (q.val < 4) := propext (first_half q)
  have e4 : styles m c ⟨(q.val % 4 % 2 + q.val % 4 / 2) % 2, by omega⟩ i
      = style (imgK (if (q.val + q.val / 2) % 2 = 0 then arg0 m c else arg1 m c) i) (segK (if (q.val + q.val / 2) % 2 = 0 then arg2 m c else arg3 m c) i)
        (fun s k j => arg4 m c (ix3 s k j)) (fun s k => arg5 m c (ix2 s k)) := by
    funext k s
    simp only [styles, e1]
  unfold result
  rw [e4]
  simp only [e2, e3]

/-- The kernel's result is the reference's stack over the same arguments. -/
theorem value_eq (hA : ∀ i, Labelled (segK (arg2 m c) i)) (hB : ∀ i, Labelled (segK (arg3 m c) i)) :
    (V5 m (outs m) c main_v13 : FVec Ideal S8x4x64x128x128 .f32)
      = Cert.ReferenceIdeal.Own.stackT (arg0 m c) (arg1 m c) (arg2 m c) (arg3 m c) (arg4 m c) (arg5 m c) (arg6 m c) (arg7 m c) (arg8 m c) (arg9 m c) := by
  rw [late_v13, maps_eq m c hA hB]
  funext j
  obtain ⟨q, i, o, y, l, rfl⟩ : ∃ (q : Fin 8) (i : Fin 4) (o : Fin 64) (y l : Fin 128), j = ix5 q i o y l := ⟨j 0, j 1, j 2, j 3, j 4, by blk_ext⟩
  exact (stacked_at _ q i o y l).trans (result_at m c q i o y l)

end Cert.KernelIdeal.Own
-- ==== Proof.lean ====
/- The proof of the claims stated in Defs.lean. -/
module

public import proofs.«01_k».proof.Defs
public import proofs.«01_k».proof.Proof.Gen.ReferenceIdeal.Run
public import proofs.«01_k».proof.Proof.KernelIdeal.Run
public import proofs.«01_k».proof.Proof.Kernel.Run
public import proofs.«01_k».proof.Proof.Value.Labels
public import proofs.«01_k».proof.Proof.Value.RefRun
public import proofs.«01_k».proof.Proof.Value.KernelRun
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_classes
public import Idealize.ShloMosaic.Adequacy
public import Idealize.ShloMosaic.Init
public import Idealize.ShloMosaic.Lib.Claim

@[expose] public section

noncomputable section

namespace Cert.Proof

open Idealize.ShloMosaic Idealize.SL.Sem

section
open Cert.ReferenceIdeal

/-- The reference runs, keeps its arguments and leaves every semaphore at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0) :=
  (θ_run (defs (F := Ideal)) _ _).mono (fun r h => ⟨fun c => (h c).2, Idealize.ShloMosaic.sem_eq_zero_of_no_sems (by decide) r.2⟩)
    (Cert.ReferenceIdeal.Value.run (F := Ideal) m g)

end

section
open Cert.KernelIdeal Cert.KernelIdeal.Own

/-- Where every pixel has a class, the kernel leaves the reference's stack over its own arguments, and keeps them. -/
theorem kernel_result (m : (ℓ : Loc nD τ sig) → Buf (Elt Ideal) ℓ) (g : Dev nD → PrngReg)
    (hp : letI := Cert.Pre_classes.Gen.facts; Cert.Pre_KernelIdeal_classes m) :
    θ_run (defs (F := Ideal)) (onTc (τ := τ) (main (F := Ideal))) ⟨m, fun _ => 0, g⟩ (fun r => ∀ c : Dev nD,
      r.2.mem ((c.tc : Thread nD τ).loc main_v13) = Cert.ReferenceIdeal.Own.stackT (arg0 m c) (arg1 m c) (arg2 m c) (arg3 m c) (arg4 m c) (arg5 m c)
        (arg6 m c) (arg7 m c) (arg8 m c) (arg9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c =>
    have hl := Cert.Pre_classes.Own.labelled (arg0 m c) (arg1 m c) (arg2 m c) (arg3 m c) (arg4 m c) (arg5 m c) (arg6 m c) (arg7 m c) (arg8 m c) (arg9 m c) (hp c)
    ⟨(h.1 c main_v13 (by decide)).trans (value_eq m c hl.1 hl.2),
      (h.1 c main_arg0 (by decide)).trans (Cert.KernelIdeal.Gen.V5_main_arg0 m (outs m) c),
      (h.1 c main_arg1 (by decide)).trans (Cert.KernelIdeal.Gen.V5_main_arg1 m (outs m) c),
      (h.1 c main_arg2 (by decide)).trans (Cert.KernelIdeal.Gen.V5_main_arg2 m (outs m) c),
      (h.1 c main_arg3 (by decide)).trans (Cert.KernelIdeal.Gen.V5_main_arg3 m (outs m) c),
      (h.1 c main_arg4 (by decide)).trans (Cert.KernelIdeal.Gen.V5_main_arg4 m (outs m) c),
      (h.1 c main_arg5 (by decide)).trans (Cert.KernelIdeal.Gen.V5_main_arg5 m (outs m) c),
      (h.1 c main_arg6 (by decide)).trans (Cert.KernelIdeal.Gen.V5_main_arg6 m (outs m) c),
      (h.1 c main_arg7 (by decide)).trans (Cert.KernelIdeal.Gen.V5_main_arg7 m (outs m) c),
      (h.1 c main_arg8 (by decide)).trans (Cert.KernelIdeal.Gen.V5_main_arg8 m (outs m) c),
      (h.1 c main_arg9 (by decide)).trans (Cert.KernelIdeal.Gen.V5_main_arg9 m (outs m) c)⟩) (run m g)

end

theorem claim : Cert.Claim := by
  refine ⟨Cert.Kernel.Gen.facts, Cert.KernelIdeal.Gen.facts, Cert.ReferenceIdeal.Gen.facts, Cert.Pre_classes.Gen.facts, ?_, ?_, ?_, ?_, ?_, ?_, ?_⟩
  · exact fun m g _ => Cert.Kernel.Own.run_frame m g
  · exact fun m g _ => Cert.KernelIdeal.Own.run_frame m g
  · exact fun m g _ => Cert.KernelIdeal.Own.run_frame m g
  · exact fun m g _ => reference_frame m g
  · exact fun m g _ => reference_frame m g
  · trivial
  · intro m g m' g' hp ha
    refine ⟨_, kernel_result m g hp, ?_⟩
    refine (θ_run (Cert.ReferenceIdeal.defs (F := Ideal)) _ _).mono (fun r h c => ⟨(h c).1.trans ?_, (h c).2⟩) (Cert.ReferenceIdeal.Own.run_result m' g')
    obtain ⟨a0, a1, a2, a3, a4, a5, a6, a7, a8, a9⟩ := ha c
    unfold Cert.ReferenceIdeal.Own.resultT
    rw [a0, a1, a2, a3, a4, a5, a6, a7, a8, a9]

end Cert.Proof

end
